-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x256x512 : Shape := ⟨3, ![3, 256, 512]⟩
abbrev S3x512x256 : Shape := ⟨3, ![3, 512, 256]⟩
abbrev S16 : Shape := ⟨1, ![16]⟩
abbrev S8 : Shape := ⟨1, ![8]⟩
abbrev S1 : Shape := ⟨1, ![1]⟩
abbrev S_ : Shape := ⟨0, ![]⟩
abbrev S1x256x512 : Shape := ⟨3, ![1, 256, 512]⟩
abbrev S1x512x256 : Shape := ⟨3, ![1, 512, 256]⟩
abbrev S256x256 : Shape := ⟨2, ![256, 256]⟩
abbrev S32x256 : Shape := ⟨2, ![32, 256]⟩

abbrev nBuf : Space → Nat
  | .hbm => 8
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .f32⟩
  | .local _ .vmem, ⟨4, _⟩ => ⟨S3x256x512, .f32⟩
  | .local _ .vmem, ⟨5, _⟩ => ⟨S3x512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_81 : BitVec 32 := 1#32
  let v141 : BitVec 32 := Scalar.muli v91 c1_i32_81
  let v142 : BitVec 32 := Scalar.addi c0_i32_82 v141
  v142.toNat
def k0_dev2 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_84 : BitVec 32 := 1#32
  let v143 : BitVec 32 := Scalar.muli v99 c1_i32_84
  let v144 : BitVec 32 := Scalar.addi c0_i32_85 v143
  v144.toNat
def k0_dev3 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_87 : BitVec 32 := 1#32
  let v145 : BitVec 32 := Scalar.muli v107 c1_i32_87
  let v146 : BitVec 32 := Scalar.addi c0_i32_88 v145
  v146.toNat
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_90 : BitVec 32 := 1#32
  let v147 : BitVec 32 := Scalar.muli v115 c1_i32_90
  let v148 : BitVec 32 := Scalar.addi c0_i32_91 v147
  v148.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_93 : BitVec 32 := 1#32
  let v149 : BitVec 32 := Scalar.muli v123 c1_i32_93
  let v150 : BitVec 32 := Scalar.addi c0_i32_94 v149
  v150.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_96 : BitVec 32 := 1#32
  let v151 : BitVec 32 := Scalar.muli v131 c1_i32_96
  let v152 : BitVec 32 := Scalar.addi c0_i32_97 v151
  v152.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_99 : BitVec 32 := 1#32
  let v153 : BitVec 32 := Scalar.muli v139 c1_i32_99
  let v154 : BitVec 32 := Scalar.addi c0_i32_100 v153
  v154.toNat
def k0_off1 (d0 : Dev nD) (c0_i32_124 : BitVec 32) (c1_i32_47 : BitVec 32) (c1_i32_46 : BitVec 32) (c1_i32_45 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let v84 : BitVec 32 := Scalar.xori v83 c1_i32_45
  let v90 : BitVec 32 := Scalar.xori v84 v85
  let v91 : BitVec 32 := Scalar.addi v89 v90
  let v186 : BitVec 32 := Scalar.addi c0_i32_124 v91
  ![v186.toNat]
def k0_off1_at (r : Fin 14) : BitVec 32 × BitVec 32 × BitVec 32 × BitVec 32 :=
  if r.val < 7 then
    if r.val < 3 then
      if r.val < 1 then
        (0#32, 1#32, 1#32, 1#32)
      else
        if r.val < 2 then
          (0#32, 0#32, 1#32, 1#32)
        else
          (0#32, 1#32, 0#32, 1#32)
    else
      if r.val < 5 then
        if r.val < 4 then
          (0#32, 1#32, 1#32, 0#32)
        else
          (0#32, 0#32, 0#32, 1#32)
      else
        if r.val < 6 then
          (0#32, 0#32, 1#32, 0#32)
        else
          (0#32, 1#32, 0#32, 0#32)
  else
    if r.val < 10 then
      if r.val < 8 then
        (8#32, 1#32, 1#32, 1#32)
      else
        if r.val < 9 then
          (8#32, 0#32, 1#32, 1#32)
        else
          (8#32, 1#32, 0#32, 1#32)
    else
      if r.val < 12 then
        if r.val < 11 then
          (8#32, 1#32, 1#32, 0#32)
        else
          (8#32, 0#32, 0#32, 1#32)
      else
        if r.val < 13 then
          (8#32, 0#32, 1#32, 0#32)
        else
          (8#32, 1#32, 0#32, 0#32)
def k0_off2 (d0 : Dev nD) (c0_i32_125 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v187 : BitVec 32 := Scalar.addi c0_i32_125 v2
  ![v187.toNat]
def k0_off3 (d0 : Dev nD) (c0_i32_123 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_122 : BitVec 32 := 32#32
  let v184 : BitVec 32 := Scalar.muli v2 c32_i32_122
  let v185 : BitVec 32 := Scalar.addi c0_i32_123 v184
  let c0_i32_128 : BitVec 32 := 0#32
  ![v185.toNat, 0]
def k0_off4 (d0 : Dev nD) (c0_i32_121 : BitVec 32) (c1_i32_47 : BitVec 32) (c1_i32_46 : BitVec 32) (c1_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let v84 : BitVec 32 := Scalar.xori v83 c1_i32_45
  let v90 : BitVec 32 := Scalar.xori v84 v85
  let v91 : BitVec 32 := Scalar.addi v89 v90
  let c32_i32 : BitVec 32 := 32#32
  let v182 : BitVec 32 := Scalar.muli v91 c32_i32
  let v183 : BitVec 32 := Scalar.addi c0_i32_121 v182
  let c0_i32_129 : BitVec 32 := 0#32
  ![v183.toNat, 0]
def k0_off4_at (r : Fin 14) : BitVec 32 × BitVec 32 × BitVec 32 × BitVec 32 :=
  if r.val < 7 then
    if r.val < 3 then
      if r.val < 1 then
        (0#32, 1#32, 1#32, 1#32)
      else
        if r.val < 2 then
          (0#32, 0#32, 1#32, 1#32)
        else
          (0#32, 1#32, 0#32, 1#32)
    else
      if r.val < 5 then
        if r.val < 4 then
          (0#32, 1#32, 1#32, 0#32)
        else
          (0#32, 0#32, 0#32, 1#32)
      else
        if r.val < 6 then
          (0#32, 0#32, 1#32, 0#32)
        else
          (0#32, 1#32, 0#32, 0#32)
  else
    if r.val < 10 then
      if r.val < 8 then
        (256#32, 1#32, 1#32, 1#32)
      else
        if r.val < 9 then
          (256#32, 0#32, 1#32, 1#32)
        else
          (256#32, 1#32, 0#32, 1#32)
    else
      if r.val < 12 then
        if r.val < 11 then
          (256#32, 1#32, 1#32, 0#32)
        else
          (256#32, 0#32, 0#32, 1#32)
      else
        if r.val < 13 then
          (256#32, 0#32, 1#32, 0#32)
        else
          (256#32, 1#32, 0#32, 0#32)
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_126 : BitVec 32 := 1#32
  let v188 : BitVec 32 := Scalar.muli v91 c1_i32_126
  let v189 : BitVec 32 := Scalar.addi c0_i32_127 v188
  v189.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_136 : BitVec 32 := 1#32
  let v202 : BitVec 32 := Scalar.muli v99 c1_i32_136
  let v203 : BitVec 32 := Scalar.addi c0_i32_137 v202
  v203.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_146 : BitVec 32 := 1#32
  let v216 : BitVec 32 := Scalar.muli v107 c1_i32_146
  let v217 : BitVec 32 := Scalar.addi c0_i32_147 v216
  v217.toNat
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_156 : BitVec 32 := 1#32
  let v230 : BitVec 32 := Scalar.muli v115 c1_i32_156
  let v231 : BitVec 32 := Scalar.addi c0_i32_157 v230
  v231.toNat
def k0_dev12 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_166 : BitVec 32 := 1#32
  let v244 : BitVec 32 := Scalar.muli v123 c1_i32_166
  let v245 : BitVec 32 := Scalar.addi c0_i32_167 v244
  v245.toNat
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_176 : BitVec 32 := 1#32
  let v258 : BitVec 32 := Scalar.muli v131 c1_i32_176
  let v259 : BitVec 32 := Scalar.addi c0_i32_177 v258
  v259.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_186 : BitVec 32 := 1#32
  let v272 : BitVec 32 := Scalar.muli v139 c1_i32_186
  let v273 : BitVec 32 := Scalar.addi c0_i32_187 v272
  v273.toNat
def k0_dev15 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_207 : BitVec 32 := 1#32
  let v303 : BitVec 32 := Scalar.muli v91 c1_i32_207
  let v304 : BitVec 32 := Scalar.addi c0_i32_208 v303
  v304.toNat
def k0_dev16 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_217 : BitVec 32 := 1#32
  let v317 : BitVec 32 := Scalar.muli v99 c1_i32_217
  let v318 : BitVec 32 := Scalar.addi c0_i32_218 v317
  v318.toNat
def k0_dev17 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_227 : BitVec 32 := 1#32
  let v331 : BitVec 32 := Scalar.muli v107 c1_i32_227
  let v332 : BitVec 32 := Scalar.addi c0_i32_228 v331
  v332.toNat
def k0_dev18 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_237 : BitVec 32 := 1#32
  let v345 : BitVec 32 := Scalar.muli v115 c1_i32_237
  let v346 : BitVec 32 := Scalar.addi c0_i32_238 v345
  v346.toNat
def k0_dev19 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_247 : BitVec 32 := 1#32
  let v359 : BitVec 32 := Scalar.muli v123 c1_i32_247
  let v360 : BitVec 32 := Scalar.addi c0_i32_248 v359
  v360.toNat
def k0_dev20 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_257 : BitVec 32 := 1#32
  let v373 : BitVec 32 := Scalar.muli v131 c1_i32_257
  let v374 : BitVec 32 := Scalar.addi c0_i32_258 v373
  v374.toNat
def k0_dev21 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_267 : BitVec 32 := 1#32
  let v387 : BitVec 32 := Scalar.muli v139 c1_i32_267
  let v388 : BitVec 32 := Scalar.addi c0_i32_268 v387
  v388.toNat
def k0_off5 (d0 : Dev nD) (c0_i32_335 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_334 : BitVec 32 := 32#32
  let v465 : BitVec 32 := Scalar.muli v2 c32_i32_334
  let v466 : BitVec 32 := Scalar.addi c0_i32_335 v465
  let v467 : Index := Scalar.indexCast v466
  let c0_336 : Index := 0#32
  ![v467.toNat, 0]
def k0_off6 (d0 : Dev nD) (c0_i32_338 : BitVec 32) (c1_i32_47 : BitVec 32) (c1_i32_46 : BitVec 32) (c1_i32_45 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let v84 : BitVec 32 := Scalar.xori v83 c1_i32_45
  let v90 : BitVec 32 := Scalar.xori v84 v85
  let v91 : BitVec 32 := Scalar.addi v89 v90
  let c32_i32_337 : BitVec 32 := 32#32
  let v470 : BitVec 32 := Scalar.muli v91 c32_i32_337
  let v471 : BitVec 32 := Scalar.addi c0_i32_338 v470
  let v472 : Index := Scalar.indexCast v471
  let c0_339 : Index := 0#32
  ![v472.toNat, 0]
def k0_off6_at (r : Fin 14) : BitVec 32 × BitVec 32 × BitVec 32 × BitVec 32 :=
  if r.val < 7 then
    if r.val < 3 then
      if r.val < 1 then
        (0#32, 1#32, 1#32, 1#32)
      else
        if r.val < 2 then
          (0#32, 0#32, 1#32, 1#32)
        else
          (0#32, 1#32, 0#32, 1#32)
    else
      if r.val < 5 then
        if r.val < 4 then
          (0#32, 1#32, 1#32, 0#32)
        else
          (0#32, 0#32, 0#32, 1#32)
      else
        if r.val < 6 then
          (0#32, 0#32, 1#32, 0#32)
        else
          (0#32, 1#32, 0#32, 0#32)
  else
    if r.val < 10 then
      if r.val < 8 then
        (256#32, 1#32, 1#32, 1#32)
      else
        if r.val < 9 then
          (256#32, 0#32, 1#32, 1#32)
        else
          (256#32, 1#32, 0#32, 1#32)
    else
      if r.val < 12 then
        if r.val < 11 then
          (256#32, 1#32, 1#32, 0#32)
        else
          (256#32, 0#32, 0#32, 1#32)
      else
        if r.val < 13 then
          (256#32, 0#32, 1#32, 0#32)
        else
          (256#32, 1#32, 0#32, 0#32)
def k0_dev22 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_367 : BitVec 32 := 1#32
  let v525 : BitVec 32 := Scalar.muli v91 c1_i32_367
  let v526 : BitVec 32 := Scalar.addi c0_i32_368 v525
  v526.toNat
def k0_dev23 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_377 : BitVec 32 := 1#32
  let v539 : BitVec 32 := Scalar.muli v99 c1_i32_377
  let v540 : BitVec 32 := Scalar.addi c0_i32_378 v539
  v540.toNat
def k0_dev24 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_387 : BitVec 32 := 1#32
  let v553 : BitVec 32 := Scalar.muli v107 c1_i32_387
  let v554 : BitVec 32 := Scalar.addi c0_i32_388 v553
  v554.toNat
def k0_dev25 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_397 : BitVec 32 := 1#32
  let v567 : BitVec 32 := Scalar.muli v115 c1_i32_397
  let v568 : BitVec 32 := Scalar.addi c0_i32_398 v567
  v568.toNat
def k0_dev26 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_407 : BitVec 32 := 1#32
  let v581 : BitVec 32 := Scalar.muli v123 c1_i32_407
  let v582 : BitVec 32 := Scalar.addi c0_i32_408 v581
  v582.toNat
def k0_dev27 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_417 : BitVec 32 := 1#32
  let v595 : BitVec 32 := Scalar.muli v131 c1_i32_417
  let v596 : BitVec 32 := Scalar.addi c0_i32_418 v595
  v596.toNat
def k0_dev28 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_427 : BitVec 32 := 1#32
  let v609 : BitVec 32 := Scalar.muli v139 c1_i32_427
  let v610 : BitVec 32 := Scalar.addi c0_i32_428 v609
  v610.toNat
def k0_dev29 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_527 : BitVec 32 := 1#32
  let v747 : BitVec 32 := Scalar.muli v91 c1_i32_527
  let v748 : BitVec 32 := Scalar.addi c0_i32_528 v747
  v748.toNat
def k0_dev30 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_537 : BitVec 32 := 1#32
  let v761 : BitVec 32 := Scalar.muli v99 c1_i32_537
  let v762 : BitVec 32 := Scalar.addi c0_i32_538 v761
  v762.toNat
def k0_dev31 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_547 : BitVec 32 := 1#32
  let v775 : BitVec 32 := Scalar.muli v107 c1_i32_547
  let v776 : BitVec 32 := Scalar.addi c0_i32_548 v775
  v776.toNat
def k0_dev32 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_557 : BitVec 32 := 1#32
  let v789 : BitVec 32 := Scalar.muli v115 c1_i32_557
  let v790 : BitVec 32 := Scalar.addi c0_i32_558 v789
  v790.toNat
def k0_dev33 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_567 : BitVec 32 := 1#32
  let v803 : BitVec 32 := Scalar.muli v123 c1_i32_567
  let v804 : BitVec 32 := Scalar.addi c0_i32_568 v803
  v804.toNat
def k0_dev34 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_577 : BitVec 32 := 1#32
  let v817 : BitVec 32 := Scalar.muli v131 c1_i32_577
  let v818 : BitVec 32 := Scalar.addi c0_i32_578 v817
  v818.toNat
def k0_dev35 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_587 : BitVec 32 := 1#32
  let v831 : BitVec 32 := Scalar.muli v139 c1_i32_587
  let v832 : BitVec 32 := Scalar.addi c0_i32_588 v831
  v832.toNat
def k0_dev36 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_743 : BitVec 32 := 1#32
  let v1009 : BitVec 32 := Scalar.muli v91 c1_i32_743
  let v1010 : BitVec 32 := Scalar.addi c0_i32_744 v1009
  v1010.toNat
def k0_dev37 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_753 : BitVec 32 := 1#32
  let v1023 : BitVec 32 := Scalar.muli v99 c1_i32_753
  let v1024 : BitVec 32 := Scalar.addi c0_i32_754 v1023
  v1024.toNat
def k0_dev38 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_763 : BitVec 32 := 1#32
  let v1037 : BitVec 32 := Scalar.muli v107 c1_i32_763
  let v1038 : BitVec 32 := Scalar.addi c0_i32_764 v1037
  v1038.toNat
def k0_dev39 (d0 : Dev nD) : Nat :=
  let c0_i32_774 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_773 : BitVec 32 := 1#32
  let v1051 : BitVec 32 := Scalar.muli v115 c1_i32_773
  let v1052 : BitVec 32 := Scalar.addi c0_i32_774 v1051
  v1052.toNat
def k0_dev40 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_783 : BitVec 32 := 1#32
  let v1065 : BitVec 32 := Scalar.muli v123 c1_i32_783
  let v1066 : BitVec 32 := Scalar.addi c0_i32_784 v1065
  v1066.toNat
def k0_dev41 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_793 : BitVec 32 := 1#32
  let v1079 : BitVec 32 := Scalar.muli v131 c1_i32_793
  let v1080 : BitVec 32 := Scalar.addi c0_i32_794 v1079
  v1080.toNat
def k0_dev42 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_803 : BitVec 32 := 1#32
  let v1093 : BitVec 32 := Scalar.muli v139 c1_i32_803
  let v1094 : BitVec 32 := Scalar.addi c0_i32_804 v1093
  v1094.toNat
def k0_dev43 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_952 : BitVec 32 := 1#32
  let v1263 : BitVec 32 := Scalar.muli v91 c1_i32_952
  let v1264 : BitVec 32 := Scalar.addi c0_i32_953 v1263
  v1264.toNat
def k0_dev44 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_962 : BitVec 32 := 1#32
  let v1277 : BitVec 32 := Scalar.muli v99 c1_i32_962
  let v1278 : BitVec 32 := Scalar.addi c0_i32_963 v1277
  v1278.toNat
def k0_dev45 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_972 : BitVec 32 := 1#32
  let v1291 : BitVec 32 := Scalar.muli v107 c1_i32_972
  let v1292 : BitVec 32 := Scalar.addi c0_i32_973 v1291
  v1292.toNat
def k0_dev46 (d0 : Dev nD) : Nat :=
  let c0_i32_983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_982 : BitVec 32 := 1#32
  let v1305 : BitVec 32 := Scalar.muli v115 c1_i32_982
  let v1306 : BitVec 32 := Scalar.addi c0_i32_983 v1305
  v1306.toNat
def k0_dev47 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_992 : BitVec 32 := 1#32
  let v1319 : BitVec 32 := Scalar.muli v123 c1_i32_992
  let v1320 : BitVec 32 := Scalar.addi c0_i32_993 v1319
  v1320.toNat
def k0_dev48 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_1002 : BitVec 32 := 1#32
  let v1333 : BitVec 32 := Scalar.muli v131 c1_i32_1002
  let v1334 : BitVec 32 := Scalar.addi c0_i32_1003 v1333
  v1334.toNat
def k0_dev49 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_1012 : BitVec 32 := 1#32
  let v1347 : BitVec 32 := Scalar.muli v139 c1_i32_1012
  let v1348 : BitVec 32 := Scalar.addi c0_i32_1013 v1347
  v1348.toNat
def k0_dev50 (d0 : Dev nD) : Nat :=
  let c0_i32_1176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_1175 : BitVec 32 := 1#32
  let v1555 : BitVec 32 := Scalar.muli v91 c1_i32_1175
  let v1556 : BitVec 32 := Scalar.addi c0_i32_1176 v1555
  v1556.toNat
def k0_dev51 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_1185 : BitVec 32 := 1#32
  let v1569 : BitVec 32 := Scalar.muli v99 c1_i32_1185
  let v1570 : BitVec 32 := Scalar.addi c0_i32_1186 v1569
  v1570.toNat
def k0_dev52 (d0 : Dev nD) : Nat :=
  let c0_i32_1196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_1195 : BitVec 32 := 1#32
  let v1583 : BitVec 32 := Scalar.muli v107 c1_i32_1195
  let v1584 : BitVec 32 := Scalar.addi c0_i32_1196 v1583
  v1584.toNat
def k0_dev53 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_1205 : BitVec 32 := 1#32
  let v1597 : BitVec 32 := Scalar.muli v115 c1_i32_1205
  let v1598 : BitVec 32 := Scalar.addi c0_i32_1206 v1597
  v1598.toNat
def k0_dev54 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_1215 : BitVec 32 := 1#32
  let v1611 : BitVec 32 := Scalar.muli v123 c1_i32_1215
  let v1612 : BitVec 32 := Scalar.addi c0_i32_1216 v1611
  v1612.toNat
def k0_dev55 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_1225 : BitVec 32 := 1#32
  let v1625 : BitVec 32 := Scalar.muli v131 c1_i32_1225
  let v1626 : BitVec 32 := Scalar.addi c0_i32_1226 v1625
  v1626.toNat
def k0_dev56 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_1235 : BitVec 32 := 1#32
  let v1639 : BitVec 32 := Scalar.muli v139 c1_i32_1235
  let v1640 : BitVec 32 := Scalar.addi c0_i32_1236 v1639
  v1640.toNat
def k0_dev57 (d0 : Dev nD) : Nat :=
  let c0_i32_1399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_1398 : BitVec 32 := 1#32
  let v1847 : BitVec 32 := Scalar.muli v91 c1_i32_1398
  let v1848 : BitVec 32 := Scalar.addi c0_i32_1399 v1847
  v1848.toNat
def k0_dev58 (d0 : Dev nD) : Nat :=
  let c0_i32_1409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_1408 : BitVec 32 := 1#32
  let v1861 : BitVec 32 := Scalar.muli v99 c1_i32_1408
  let v1862 : BitVec 32 := Scalar.addi c0_i32_1409 v1861
  v1862.toNat
def k0_dev59 (d0 : Dev nD) : Nat :=
  let c0_i32_1419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_1418 : BitVec 32 := 1#32
  let v1875 : BitVec 32 := Scalar.muli v107 c1_i32_1418
  let v1876 : BitVec 32 := Scalar.addi c0_i32_1419 v1875
  v1876.toNat
def k0_dev60 (d0 : Dev nD) : Nat :=
  let c0_i32_1429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_1428 : BitVec 32 := 1#32
  let v1889 : BitVec 32 := Scalar.muli v115 c1_i32_1428
  let v1890 : BitVec 32 := Scalar.addi c0_i32_1429 v1889
  v1890.toNat
def k0_dev61 (d0 : Dev nD) : Nat :=
  let c0_i32_1439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_1438 : BitVec 32 := 1#32
  let v1903 : BitVec 32 := Scalar.muli v123 c1_i32_1438
  let v1904 : BitVec 32 := Scalar.addi c0_i32_1439 v1903
  v1904.toNat
def k0_dev62 (d0 : Dev nD) : Nat :=
  let c0_i32_1449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_1448 : BitVec 32 := 1#32
  let v1917 : BitVec 32 := Scalar.muli v131 c1_i32_1448
  let v1918 : BitVec 32 := Scalar.addi c0_i32_1449 v1917
  v1918.toNat
def k0_dev63 (d0 : Dev nD) : Nat :=
  let c0_i32_1459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_1458 : BitVec 32 := 1#32
  let v1931 : BitVec 32 := Scalar.muli v139 c1_i32_1458
  let v1932 : BitVec 32 := Scalar.addi c0_i32_1459 v1931
  v1932.toNat
def k0_dev64 (d0 : Dev nD) : Nat :=
  let c0_i32_1615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_1614 : BitVec 32 := 1#32
  let v2109 : BitVec 32 := Scalar.muli v91 c1_i32_1614
  let v2110 : BitVec 32 := Scalar.addi c0_i32_1615 v2109
  v2110.toNat
def k0_dev65 (d0 : Dev nD) : Nat :=
  let c0_i32_1625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_1624 : BitVec 32 := 1#32
  let v2123 : BitVec 32 := Scalar.muli v99 c1_i32_1624
  let v2124 : BitVec 32 := Scalar.addi c0_i32_1625 v2123
  v2124.toNat
def k0_dev66 (d0 : Dev nD) : Nat :=
  let c0_i32_1635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_1634 : BitVec 32 := 1#32
  let v2137 : BitVec 32 := Scalar.muli v107 c1_i32_1634
  let v2138 : BitVec 32 := Scalar.addi c0_i32_1635 v2137
  v2138.toNat
def k0_dev67 (d0 : Dev nD) : Nat :=
  let c0_i32_1645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_1644 : BitVec 32 := 1#32
  let v2151 : BitVec 32 := Scalar.muli v115 c1_i32_1644
  let v2152 : BitVec 32 := Scalar.addi c0_i32_1645 v2151
  v2152.toNat
def k0_dev68 (d0 : Dev nD) : Nat :=
  let c0_i32_1655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_1654 : BitVec 32 := 1#32
  let v2165 : BitVec 32 := Scalar.muli v123 c1_i32_1654
  let v2166 : BitVec 32 := Scalar.addi c0_i32_1655 v2165
  v2166.toNat
def k0_dev69 (d0 : Dev nD) : Nat :=
  let c0_i32_1665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_1664 : BitVec 32 := 1#32
  let v2179 : BitVec 32 := Scalar.muli v131 c1_i32_1664
  let v2180 : BitVec 32 := Scalar.addi c0_i32_1665 v2179
  v2180.toNat
def k0_dev70 (d0 : Dev nD) : Nat :=
  let c0_i32_1675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_1674 : BitVec 32 := 1#32
  let v2193 : BitVec 32 := Scalar.muli v139 c1_i32_1674
  let v2194 : BitVec 32 := Scalar.addi c0_i32_1675 v2193
  v2194.toNat
def k0_dev71 (d0 : Dev nD) : Nat :=
  let c0_i32_1824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_1823 : BitVec 32 := 1#32
  let v2363 : BitVec 32 := Scalar.muli v91 c1_i32_1823
  let v2364 : BitVec 32 := Scalar.addi c0_i32_1824 v2363
  v2364.toNat
def k0_dev72 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_1833 : BitVec 32 := 1#32
  let v2377 : BitVec 32 := Scalar.muli v99 c1_i32_1833
  let v2378 : BitVec 32 := Scalar.addi c0_i32_1834 v2377
  v2378.toNat
def k0_dev73 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_1843 : BitVec 32 := 1#32
  let v2391 : BitVec 32 := Scalar.muli v107 c1_i32_1843
  let v2392 : BitVec 32 := Scalar.addi c0_i32_1844 v2391
  v2392.toNat
def k0_dev74 (d0 : Dev nD) : Nat :=
  let c0_i32_1854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_1853 : BitVec 32 := 1#32
  let v2405 : BitVec 32 := Scalar.muli v115 c1_i32_1853
  let v2406 : BitVec 32 := Scalar.addi c0_i32_1854 v2405
  v2406.toNat
def k0_dev75 (d0 : Dev nD) : Nat :=
  let c0_i32_1864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_1863 : BitVec 32 := 1#32
  let v2419 : BitVec 32 := Scalar.muli v123 c1_i32_1863
  let v2420 : BitVec 32 := Scalar.addi c0_i32_1864 v2419
  v2420.toNat
def k0_dev76 (d0 : Dev nD) : Nat :=
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_1873 : BitVec 32 := 1#32
  let v2433 : BitVec 32 := Scalar.muli v131 c1_i32_1873
  let v2434 : BitVec 32 := Scalar.addi c0_i32_1874 v2433
  v2434.toNat
def k0_dev77 (d0 : Dev nD) : Nat :=
  let c0_i32_1884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_1883 : BitVec 32 := 1#32
  let v2447 : BitVec 32 := Scalar.muli v139 c1_i32_1883
  let v2448 : BitVec 32 := Scalar.addi c0_i32_1884 v2447
  v2448.toNat
def k0_dev78 (d0 : Dev nD) : Nat :=
  let c0_i32_2047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_2046 : BitVec 32 := 1#32
  let v2655 : BitVec 32 := Scalar.muli v91 c1_i32_2046
  let v2656 : BitVec 32 := Scalar.addi c0_i32_2047 v2655
  v2656.toNat
def k0_dev79 (d0 : Dev nD) : Nat :=
  let c0_i32_2057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_2056 : BitVec 32 := 1#32
  let v2669 : BitVec 32 := Scalar.muli v99 c1_i32_2056
  let v2670 : BitVec 32 := Scalar.addi c0_i32_2057 v2669
  v2670.toNat
def k0_dev80 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_2066 : BitVec 32 := 1#32
  let v2683 : BitVec 32 := Scalar.muli v107 c1_i32_2066
  let v2684 : BitVec 32 := Scalar.addi c0_i32_2067 v2683
  v2684.toNat
def k0_dev81 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_2076 : BitVec 32 := 1#32
  let v2697 : BitVec 32 := Scalar.muli v115 c1_i32_2076
  let v2698 : BitVec 32 := Scalar.addi c0_i32_2077 v2697
  v2698.toNat
def k0_dev82 (d0 : Dev nD) : Nat :=
  let c0_i32_2087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_2086 : BitVec 32 := 1#32
  let v2711 : BitVec 32 := Scalar.muli v123 c1_i32_2086
  let v2712 : BitVec 32 := Scalar.addi c0_i32_2087 v2711
  v2712.toNat
def k0_dev83 (d0 : Dev nD) : Nat :=
  let c0_i32_2097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_2096 : BitVec 32 := 1#32
  let v2725 : BitVec 32 := Scalar.muli v131 c1_i32_2096
  let v2726 : BitVec 32 := Scalar.addi c0_i32_2097 v2725
  v2726.toNat
def k0_dev84 (d0 : Dev nD) : Nat :=
  let c0_i32_2107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_2106 : BitVec 32 := 1#32
  let v2739 : BitVec 32 := Scalar.muli v139 c1_i32_2106
  let v2740 : BitVec 32 := Scalar.addi c0_i32_2107 v2739
  v2740.toNat
def k0_dev85 (d0 : Dev nD) : Nat :=
  let c0_i32_2270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_47 : BitVec 32 := 1#32
  let v86 : BitVec 32 := Scalar.xori v45 c1_i32_47
  let c4_i32_48 : BitVec 32 := 4#32
  let v87 : BitVec 32 := Scalar.muli v86 c4_i32_48
  let c2_i32_49 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_46 : BitVec 32 := 1#32
  let v85 : BitVec 32 := Scalar.xori v72 c1_i32_46
  let v88 : BitVec 32 := Scalar.muli c2_i32_49 v85
  let v89 : BitVec 32 := Scalar.addi v87 v88
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_45 : BitVec 32 := 1#32
  let v84 : BitVec 32 := Scalar.xori v83 c1_i32_45
  let v90 : BitVec 32 := Scalar.xori v84 v85
  let v91 : BitVec 32 := Scalar.addi v89 v90
  let c1_i32_2269 : BitVec 32 := 1#32
  let v2947 : BitVec 32 := Scalar.muli v91 c1_i32_2269
  let v2948 : BitVec 32 := Scalar.addi c0_i32_2270 v2947
  v2948.toNat
def k0_dev86 (d0 : Dev nD) : Nat :=
  let c0_i32_2280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_52 : BitVec 32 := 0#32
  let v94 : BitVec 32 := Scalar.xori v45 c0_i32_52
  let c4_i32_53 : BitVec 32 := 4#32
  let v95 : BitVec 32 := Scalar.muli v94 c4_i32_53
  let c2_i32_54 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_51 : BitVec 32 := 1#32
  let v93 : BitVec 32 := Scalar.xori v72 c1_i32_51
  let v96 : BitVec 32 := Scalar.muli c2_i32_54 v93
  let v97 : BitVec 32 := Scalar.addi v95 v96
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_50 : BitVec 32 := 1#32
  let v92 : BitVec 32 := Scalar.xori v83 c1_i32_50
  let v98 : BitVec 32 := Scalar.xori v92 v93
  let v99 : BitVec 32 := Scalar.addi v97 v98
  let c1_i32_2279 : BitVec 32 := 1#32
  let v2961 : BitVec 32 := Scalar.muli v99 c1_i32_2279
  let v2962 : BitVec 32 := Scalar.addi c0_i32_2280 v2961
  v2962.toNat
def k0_dev87 (d0 : Dev nD) : Nat :=
  let c0_i32_2290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_57 : BitVec 32 := 1#32
  let v102 : BitVec 32 := Scalar.xori v45 c1_i32_57
  let c4_i32_58 : BitVec 32 := 4#32
  let v103 : BitVec 32 := Scalar.muli v102 c4_i32_58
  let c2_i32_59 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_56 : BitVec 32 := 0#32
  let v101 : BitVec 32 := Scalar.xori v72 c0_i32_56
  let v104 : BitVec 32 := Scalar.muli c2_i32_59 v101
  let v105 : BitVec 32 := Scalar.addi v103 v104
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_55 : BitVec 32 := 1#32
  let v100 : BitVec 32 := Scalar.xori v83 c1_i32_55
  let v106 : BitVec 32 := Scalar.xori v100 v101
  let v107 : BitVec 32 := Scalar.addi v105 v106
  let c1_i32_2289 : BitVec 32 := 1#32
  let v2975 : BitVec 32 := Scalar.muli v107 c1_i32_2289
  let v2976 : BitVec 32 := Scalar.addi c0_i32_2290 v2975
  v2976.toNat
def k0_dev88 (d0 : Dev nD) : Nat :=
  let c0_i32_2300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_62 : BitVec 32 := 1#32
  let v110 : BitVec 32 := Scalar.xori v45 c1_i32_62
  let c4_i32_63 : BitVec 32 := 4#32
  let v111 : BitVec 32 := Scalar.muli v110 c4_i32_63
  let c2_i32_64 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_61 : BitVec 32 := 1#32
  let v109 : BitVec 32 := Scalar.xori v72 c1_i32_61
  let v112 : BitVec 32 := Scalar.muli c2_i32_64 v109
  let v113 : BitVec 32 := Scalar.addi v111 v112
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_60 : BitVec 32 := 0#32
  let v108 : BitVec 32 := Scalar.xori v83 c0_i32_60
  let v114 : BitVec 32 := Scalar.xori v108 v109
  let v115 : BitVec 32 := Scalar.addi v113 v114
  let c1_i32_2299 : BitVec 32 := 1#32
  let v2989 : BitVec 32 := Scalar.muli v115 c1_i32_2299
  let v2990 : BitVec 32 := Scalar.addi c0_i32_2300 v2989
  v2990.toNat
def k0_dev89 (d0 : Dev nD) : Nat :=
  let c0_i32_2310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_67 : BitVec 32 := 0#32
  let v118 : BitVec 32 := Scalar.xori v45 c0_i32_67
  let c4_i32_68 : BitVec 32 := 4#32
  let v119 : BitVec 32 := Scalar.muli v118 c4_i32_68
  let c2_i32_69 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_66 : BitVec 32 := 0#32
  let v117 : BitVec 32 := Scalar.xori v72 c0_i32_66
  let v120 : BitVec 32 := Scalar.muli c2_i32_69 v117
  let v121 : BitVec 32 := Scalar.addi v119 v120
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c1_i32_65 : BitVec 32 := 1#32
  let v116 : BitVec 32 := Scalar.xori v83 c1_i32_65
  let v122 : BitVec 32 := Scalar.xori v116 v117
  let v123 : BitVec 32 := Scalar.addi v121 v122
  let c1_i32_2309 : BitVec 32 := 1#32
  let v3003 : BitVec 32 := Scalar.muli v123 c1_i32_2309
  let v3004 : BitVec 32 := Scalar.addi c0_i32_2310 v3003
  v3004.toNat
def k0_dev90 (d0 : Dev nD) : Nat :=
  let c0_i32_2320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c0_i32_72 : BitVec 32 := 0#32
  let v126 : BitVec 32 := Scalar.xori v45 c0_i32_72
  let c4_i32_73 : BitVec 32 := 4#32
  let v127 : BitVec 32 := Scalar.muli v126 c4_i32_73
  let c2_i32_74 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c1_i32_71 : BitVec 32 := 1#32
  let v125 : BitVec 32 := Scalar.xori v72 c1_i32_71
  let v128 : BitVec 32 := Scalar.muli c2_i32_74 v125
  let v129 : BitVec 32 := Scalar.addi v127 v128
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_70 : BitVec 32 := 0#32
  let v124 : BitVec 32 := Scalar.xori v83 c0_i32_70
  let v130 : BitVec 32 := Scalar.xori v124 v125
  let v131 : BitVec 32 := Scalar.addi v129 v130
  let c1_i32_2319 : BitVec 32 := 1#32
  let v3017 : BitVec 32 := Scalar.muli v131 c1_i32_2319
  let v3018 : BitVec 32 := Scalar.addi c0_i32_2320 v3017
  v3018.toNat
def k0_dev91 (d0 : Dev nD) : Nat :=
  let c0_i32_2330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v30 : BitVec 1 := Scalar.cmpi .sgt v2 c0_i32_20
  let v31 : BitVec 32 := Scalar.extui v30
  let c0_i32_21 : BitVec 32 := 0#32
  let v32 : BitVec 1 := Scalar.cmpi .slt v2 c0_i32_21
  let v33 : BitVec 32 := Scalar.extui v32
  let v34 : BitVec 32 := Scalar.subi v31 v33
  let c4_i32_19 : BitVec 32 := 4#32
  let c0_i32_22 : BitVec 32 := 0#32
  let v35 : BitVec 1 := Scalar.cmpi .sgt c4_i32_19 c0_i32_22
  let v36 : BitVec 32 := Scalar.extui v35
  let c0_i32_23 : BitVec 32 := 0#32
  let v37 : BitVec 1 := Scalar.cmpi .slt c4_i32_19 c0_i32_23
  let v38 : BitVec 32 := Scalar.extui v37
  let v39 : BitVec 32 := Scalar.subi v36 v38
  let v40 : BitVec 1 := Scalar.cmpi .ne v34 v39
  let v41 : BitVec 32 := Scalar.remsi v2 c4_i32_19
  let c0_i32_24 : BitVec 32 := 0#32
  let v42 : BitVec 1 := Scalar.cmpi .ne v41 c0_i32_24
  let v43 : BitVec 1 := Scalar.andi v40 v42
  let v29 : BitVec 32 := Scalar.divsi v2 c4_i32_19
  let c1_i32_25 : BitVec 32 := 1#32
  let v44 : BitVec 32 := Scalar.subi v29 c1_i32_25
  let v45 : BitVec 32 := Scalar.select v43 v44 v29
  let c1_i32_77 : BitVec 32 := 1#32
  let v134 : BitVec 32 := Scalar.xori v45 c1_i32_77
  let c4_i32_78 : BitVec 32 := 4#32
  let v135 : BitVec 32 := Scalar.muli v134 c4_i32_78
  let c2_i32_79 : BitVec 32 := 2#32
  let c4_i32_26 : BitVec 32 := 4#32
  let c0_i32_27 : BitVec 32 := 0#32
  let v46 : BitVec 1 := Scalar.cmpi .eq c4_i32_26 c0_i32_27
  let c1_i32_28 : BitVec 32 := 1#32
  let v47 : BitVec 32 := Scalar.select v46 c1_i32_28 c4_i32_26
  let v48 : BitVec 32 := Scalar.remsi v2 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c0_i32_33 : BitVec 32 := 0#32
  let v57 : BitVec 1 := Scalar.cmpi .sgt v55 c0_i32_33
  let v58 : BitVec 32 := Scalar.extui v57
  let c0_i32_34 : BitVec 32 := 0#32
  let v59 : BitVec 1 := Scalar.cmpi .slt v55 c0_i32_34
  let v60 : BitVec 32 := Scalar.extui v59
  let v61 : BitVec 32 := Scalar.subi v58 v60
  let c2_i32_32 : BitVec 32 := 2#32
  let c0_i32_35 : BitVec 32 := 0#32
  let v62 : BitVec 1 := Scalar.cmpi .sgt c2_i32_32 c0_i32_35
  let v63 : BitVec 32 := Scalar.extui v62
  let c0_i32_36 : BitVec 32 := 0#32
  let v64 : BitVec 1 := Scalar.cmpi .slt c2_i32_32 c0_i32_36
  let v65 : BitVec 32 := Scalar.extui v64
  let v66 : BitVec 32 := Scalar.subi v63 v65
  let v67 : BitVec 1 := Scalar.cmpi .ne v61 v66
  let v68 : BitVec 32 := Scalar.remsi v55 c2_i32_32
  let c0_i32_37 : BitVec 32 := 0#32
  let v69 : BitVec 1 := Scalar.cmpi .ne v68 c0_i32_37
  let v70 : BitVec 1 := Scalar.andi v67 v69
  let v56 : BitVec 32 := Scalar.divsi v55 c2_i32_32
  let c1_i32_38 : BitVec 32 := 1#32
  let v71 : BitVec 32 := Scalar.subi v56 c1_i32_38
  let v72 : BitVec 32 := Scalar.select v70 v71 v56
  let c0_i32_76 : BitVec 32 := 0#32
  let v133 : BitVec 32 := Scalar.xori v72 c0_i32_76
  let v136 : BitVec 32 := Scalar.muli c2_i32_79 v133
  let v137 : BitVec 32 := Scalar.addi v135 v136
  let c2_i32_39 : BitVec 32 := 2#32
  let c0_i32_40 : BitVec 32 := 0#32
  let v73 : BitVec 1 := Scalar.cmpi .eq c2_i32_39 c0_i32_40
  let c1_i32_41 : BitVec 32 := 1#32
  let v74 : BitVec 32 := Scalar.select v73 c1_i32_41 c2_i32_39
  let v75 : BitVec 32 := Scalar.remsi v55 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let v83 : BitVec 32 := Scalar.xori v82 v72
  let c0_i32_75 : BitVec 32 := 0#32
  let v132 : BitVec 32 := Scalar.xori v83 c0_i32_75
  let v138 : BitVec 32 := Scalar.xori v132 v133
  let v139 : BitVec 32 := Scalar.addi v137 v138
  let c1_i32_2329 : BitVec 32 := 1#32
  let v3031 : BitVec 32 := Scalar.muli v139 c1_i32_2329
  let v3032 : BitVec 32 := Scalar.addi c0_i32_2330 v3031
  v3032.toNat
-- ==== ReferenceIdeal.lean ====
abbrev S512x256 : Shape := ⟨2, ![512, 256]⟩
abbrev S256x4096 : Shape := ⟨2, ![256, 4096]⟩
abbrev S4096x256 : Shape := ⟨2, ![4096, 256]⟩
abbrev S512x4096 : Shape := ⟨2, ![512, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S512x256, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x256, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Shape.lean ====
/- The kernel's body as phases: the printed sequence of operations regrouped into the blocks a
   device runs (load starts, the barrier, and per layer and row stream the waits, the multiply,
   the sends and the reduction), each block over the seven peers. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.P

open Idealize.ShloMosaic Idealize.ShloMosaic.TcCoe
open Idealize.SL Idealize.SL.Sem
open Cert.KernelIdeal.Gen

variable {F : FTy → Type} [FloatOps F]

/-! ## The peers -/

/-- The `j`-th peer's logical id, as the kernel computes it. -/
def devN (c : Dev nD) : Fin 7 → Nat
  | 0 => k0_dev1 c | 1 => k0_dev2 c | 2 => k0_dev3 c | 3 => k0_dev4 c
  | 4 => k0_dev5 c | 5 => k0_dev6 c | 6 => k0_dev7 c

theorem devN_lt (c : Dev nD) (j : Fin 7) : devN c j < nD := by
  fin_cases j
  exacts [k0_dev1_lt c, k0_dev2_lt c, k0_dev3_lt c, k0_dev4_lt c, k0_dev5_lt c, k0_dev6_lt c, k0_dev7_lt c]

/-- The `j`-th peer of a device. -/
def peer (c : Dev nD) (j : Fin 7) : Dev nD := ⟨devN c j, devN_lt c j⟩

/-- Row `(t, j)` of the tables of peer offsets. -/
def pr (t : Fin 2) (j : Fin 7) : Fin 14 := ⟨7 * t.val + j.val, by omega⟩

/-! ## The buffers and semaphores -/

abbrev xb : Memref sig .tc .vmem S512x256 .bf16 := Memref.whole cc0_scratch0
abbrev pb : Memref sig .tc .vmem S512x256 .bf16 := Memref.whole cc0_scratch1
abbrev rb : Memref sig .tc .vmem S512x256 .bf16 := Memref.whole cc0_scratch2
abbrev xin : Memref sig .tc .vmem S512x256 .f32 := Memref.whole cc0_scratch3
abbrev wiv : Memref sig .tc .vmem S3x256x512 .f32 := Memref.whole cc0_scratch4
abbrev wov : Memref sig .tc .vmem S3x512x256 .f32 := Memref.whole cc0_scratch5
abbrev ob : Memref sig .tc .vmem S512x256 .f32 := Memref.whole cc0_scratch6

theorem hbf (b : Ref sig .tc) : (Memref.whole b).IsWhole := Memref.isWhole_whole b

/-- Semaphore of stream `t` and the `j`-th peer in one of the four arrays. -/
def semP (s : DmaSems sig S16) (c : Dev nD) (t : Fin 2) (j : Fin 7) : DmaSem sig :=
  ((s.slice (Rect.unit (s := S16) (k0_off1 c (k0_off1_at (pr t j)).1 (k0_off1_at (pr t j)).2.1 (k0_off1_at (pr t j)).2.2.1 (k0_off1_at (pr t j)).2.2.2) S1.size (k0_off1_inb c (pr t j)))).squeeze S_ squeezes_S1_S_).sem

/-- Semaphore of stream `t` and the device itself. -/
def semM (s : DmaSems sig S16) (c : Dev nD) (t : Fin 2) : DmaSem sig :=
  ((s.slice (Rect.unit (s := S16) (k0_off2 c (BitVec.ofNat 32 (8 * t.val))) S1.size (k0_off2_inb c t))).squeeze S_ squeezes_S1_S_).sem

/-- The device's own chunk of stream `t`. -/
def rectM (c : Dev nD) (t : Fin 2) : Rect S512x256 :=
  Rect.unit (s := S512x256) (k0_off3 c (BitVec.ofNat 32 (256 * t.val))) S32x256.size (k0_off3_inb c t)

/-- The `j`-th peer's chunk of stream `t`. -/
def rectP (c : Dev nD) (t : Fin 2) (j : Fin 7) : Rect S512x256 :=
  Rect.unit (s := S512x256) (k0_off4 c (k0_off4_at (pr t j)).1 (k0_off4_at (pr t j)).2.1 (k0_off4_at (pr t j)).2.2.1 (k0_off4_at (pr t j)).2.2.2) S32x256.size (k0_off4_inb c (pr t j))

/-- The two chunks at the offsets a load or store computes. -/
def rectM' (c : Dev nD) (t : Fin 2) : Rect S512x256 :=
  Rect.unit (s := S512x256) (k0_off5 c (BitVec.ofNat 32 (256 * t.val))) S32x256.size (k0_off5_inb c t)
def rectP' (c : Dev nD) (t : Fin 2) (j : Fin 7) : Rect S512x256 :=
  Rect.unit (s := S512x256) (k0_off6 c (k0_off6_at (pr t j)).1 (k0_off6_at (pr t j)).2.1 (k0_off6_at (pr t j)).2.2.1 (k0_off6_at (pr t j)).2.2.2) S32x256.size (k0_off6_inb c (pr t j))

abbrev chM (a : Memref sig .tc .vmem S512x256 .bf16) (c : Dev nD) (t : Fin 2) : Memref sig .tc .vmem S32x256 .bf16 :=
  a.slice (rectM c t) (fun _ => rfl)
abbrev chP (a : Memref sig .tc .vmem S512x256 .bf16) (c : Dev nD) (t : Fin 2) (j : Fin 7) : Memref sig .tc .vmem S32x256 .bf16 :=
  a.slice (rectP c t j) (fun _ => rfl)
abbrev ch0 (a : Memref sig .tc .vmem S512x256 .bf16) : Memref sig .tc .vmem S32x256 .bf16 :=
  a.slice (Rect.unit (s := S512x256) ![0, 0] S32x256.size inb_S512x256_S32x256_0_0) (fun _ => rfl)

theorem weM (a : Memref sig .tc .vmem S512x256 .bf16) (h : a.IsWhole) (c : Dev nD) (t : Fin 2) :
    (chM a c t).view.WordExact := h.wordExact_slice rfl _ (k0_off3_wordsbf16 c t)
theorem weP (a : Memref sig .tc .vmem S512x256 .bf16) (h : a.IsWhole) (c : Dev nD) (t : Fin 2) (j : Fin 7) :
    (chP a c t j).view.WordExact := h.wordExact_slice rfl _ (k0_off4_wordsbf16 c (pr t j))
theorem we0 (a : Memref sig .tc .vmem S512x256 .bf16) (h : a.IsWhole) :
    (ch0 a).view.WordExact := h.wordExact_slice rfl _ wordsbf16_S512x256_S32x256_0_0

/-! ## The operations -/

abbrev PG (F : FTy → Type) := Prog (TpuEff nD τ sig (Elt F) Λ₀ .tc) PUnit

/-- One after the other. -/
def seq : List (PG F) → PG F
  | [] => .ret ⟨⟩
  | p :: ps => p.bind fun _ => seq ps

/-- Over the seven peers. -/
def overPeers (f : Fin 7 → PG F) : PG F := seq [f 0, f 1, f 2, f 3, f 4, f 5, f 6]

/-- The barrier semaphore. -/
def barSem : Sem sig := (SemArray.scalar (sig.barrier 0 rfl) : Sems sig S_).sem

def signal (c : Dev nD) (j : Fin 7) : PG F := semSignalWord (peer c j) barSem 1#32

def rsSend (c : Dev nD) (t : Fin 2) (j : Fin 7) : PG F :=
  Prog.lift (.enqueueDma (chP pb c t j) (.remote (Dev.tc (peer c j)) (chM rb c t) (.dma (semP cc0_scratch7 c t j)))
    (.dma (semM cc0_scratch8 c t)) (weP pb (hbf _) c t j) (weM rb (hbf _) c t) ⟨⟨rfl, Or.inl rfl⟩, trivial⟩)

def rsWait (c : Dev nD) (t : Fin 2) (j : Fin 7) : PG F :=
  Prog.lift (.waitDma2 (semP cc0_scratch8 c t j) (ch0 pb) (chP rb c t j) (we0 pb (hbf _)) (weP rb (hbf _) c t j))

def rsSent (c : Dev nD) (t : Fin 2) (j : Fin 7) : PG F :=
  Prog.lift (.waitDma2 (semP cc0_scratch7 c t j) (chM rb c t) (chP pb c t j) (weM rb (hbf _) c t) (weP pb (hbf _) c t j))

def agSend (c : Dev nD) (t : Fin 2) (j : Fin 7) : PG F :=
  Prog.lift (.enqueueDma (chM xb c t) (.remote (Dev.tc (peer c j)) (chM xb c t) (.dma (semP cc0_scratch9 c t j)))
    (.dma (semM cc0_scratch10 c t)) (weM xb (hbf _) c t) (weM xb (hbf _) c t) ⟨⟨rfl, Or.inl rfl⟩, trivial⟩)

def agWait (c : Dev nD) (t : Fin 2) (j : Fin 7) : PG F :=
  Prog.lift (.waitDma2 (semP cc0_scratch10 c t j) (ch0 xb) (chP xb c t j) (we0 xb (hbf _)) (weP xb (hbf _) c t j))

def agSent (c : Dev nD) (t : Fin 2) (j : Fin 7) : PG F :=
  Prog.lift (.waitDma2 (semP cc0_scratch9 c t j) (chM xb c t) (chM xb c t) (weM xb (hbf _) c t) (weM xb (hbf _) c t))

/-! ## The local copies -/

abbrev a0 : Memref sig .tc .hbm S512x256 .f32 := Memref.whole main_arg0
abbrev out : Memref sig .tc .hbm S512x256 .f32 := Memref.whole main_v1

theorem wi_inb (l : Fin 3) : ∀ a, (![l.val, 0, 0] : Fin 3 → Nat) a + S1x256x512.size a ≤ S3x256x512.size a := by
  revert l; decide
theorem wo_inb (l : Fin 3) : ∀ a, (![l.val, 0, 0] : Fin 3 → Nat) a + S1x512x256.size a ≤ S3x512x256.size a := by
  revert l; decide
def wiRect (l : Fin 3) : Rect S3x256x512 := Rect.unit (s := S3x256x512) ![l.val, 0, 0] S1x256x512.size (wi_inb l)
def woRect (l : Fin 3) : Rect S3x512x256 := Rect.unit (s := S3x512x256) ![l.val, 0, 0] S1x512x256.size (wo_inb l)
/-- A layer's slot of the weight scratch buffers. -/
abbrev wiM (l : Fin 3) : Memref sig .tc .vmem S256x512 .f32 := (wiv.slice (wiRect l) (fun _ => rfl)).squeeze S256x512 squeezes_S1x256x512_S256x512
abbrev woM (l : Fin 3) : Memref sig .tc .vmem S512x256 .f32 := (wov.slice (woRect l) (fun _ => rfl)).squeeze S512x256 squeezes_S1x512x256_S512x256

/-- A layer's weight arguments. -/
def aWin : Fin 3 → Memref sig .tc .hbm S256x512 .f32
  | 0 => Memref.whole main_arg1 | 1 => Memref.whole main_arg3 | 2 => Memref.whole main_arg5
def aWout : Fin 3 → Memref sig .tc .hbm S512x256 .f32
  | 0 => Memref.whole main_arg2 | 1 => Memref.whole main_arg4 | 2 => Memref.whole main_arg6
theorem aWin_whole (l : Fin 3) : (aWin l).IsWhole := by fin_cases l <;> exact Memref.isWhole_whole _
theorem aWout_whole (l : Fin 3) : (aWout l).IsWhole := by fin_cases l <;> exact Memref.isWhole_whole _

theorem ld_inb (k : Fin 8) : ∀ a, (![k.val] : Fin 1 → Nat) a + S1.size a ≤ S8.size a := by revert k; decide
/-- The `k`-th local copy's semaphore. -/
def semL (k : Fin 8) : DmaSem sig :=
  ((cc0_scratch11.slice (Rect.unit (s := S8) ![k.val] S1.size (ld_inb k))).squeeze S_ squeezes_S1_S_).sem

def kWin (l : Fin 3) : Fin 8 := ⟨2 * l.val + 1, by omega⟩
def kWout (l : Fin 3) : Fin 8 := ⟨2 * l.val + 2, by omega⟩

theorem weWi (l : Fin 3) : (wiM l).view.WordExact := (View.wordExact_bits rfl).reshape _ _
theorem weWo (l : Fin 3) : (woM l).view.WordExact := (View.wordExact_bits rfl).reshape _ _

def ldX : PG F := Prog.lift (.enqueueDma a0 (.here xin) (.dma (semL 0)) (hbf _).wordExact (hbf _).wordExact ⟨Or.inl rfl, trivial⟩)
def ldWin (l : Fin 3) : PG F := Prog.lift (.enqueueDma (aWin l) (.here (wiM l)) (.dma (semL (kWin l))) (aWin_whole l).wordExact (weWi l) ⟨Or.inl rfl, trivial⟩)
def ldWout (l : Fin 3) : PG F := Prog.lift (.enqueueDma (aWout l) (.here (woM l)) (.dma (semL (kWout l))) (aWout_whole l).wordExact (weWo l) ⟨Or.inl rfl, trivial⟩)
def ldXWait : PG F := Prog.lift (.waitDma2 (semL 0) a0 xin (hbf _).wordExact (hbf _).wordExact)
def ldWinWait (l : Fin 3) : PG F := Prog.lift (.waitDma2 (semL (kWin l)) (aWin l) (wiM l) (aWin_whole l).wordExact (weWi l))
def ldWoutWait (l : Fin 3) : PG F := Prog.lift (.waitDma2 (semL (kWout l)) (aWout l) (woM l) (aWout_whole l).wordExact (weWo l))
def stOut : PG F := Prog.lift (.enqueueDma ob (.here out) (.dma (semL 7)) (hbf _).wordExact (hbf _).wordExact ⟨Or.inl rfl, trivial⟩)
def stOutWait : PG F := Prog.lift (.waitDma2 (semL 7) ob out (hbf _).wordExact (hbf _).wordExact)

/-! ## The computations -/

theorem row_inb (t : Fin 2) : ∀ a, (![256 * t.val, 0] : Fin 2 → Nat) a + S256x256.size a ≤ S512x256.size a := by
  revert t; decide
/-- Stream `t`'s rows. -/
def rowRect (t : Fin 2) : Rect S512x256 := Rect.unit (s := S512x256) ![256 * t.val, 0] S256x256.size (row_inb t)
theorem row_packed (t : Fin 2) : (rowRect t).PackedRows (EltTy.packing .bf16) := by
  fin_cases t
  exacts [packedbf16_S512x256_S256x256_0_0, packedbf16_S512x256_S256x256_256_0]

/-- Layer 0 of stream `t`: this device's partial product, from the input copy. -/
def comp0 (t : Fin 2) : PG F :=
  (Prog.lift (.load xin (rowRect t).toLoadRect (View.loadsAt_vmem h_S256x256))).bind fun (x : Vec F S256x256 .f32) =>
  (Prog.lift (.load wiv (wiRect 0).toLoadRect (View.loadsAt_vmem h_S1x256x512))).bind fun (wi : Vec F S1x256x512 .f32) =>
  (Prog.lift (.load wov (woRect 0).toLoadRect (View.loadsAt_vmem h_S1x512x256))).bind fun (wo : Vec F S1x512x256 .f32) =>
  (Prog.lift (.load pb (rowRect t).toLoadRect (View.loadsAt_vmem h_S256x256))).bind fun (_ : Vec F S256x256 .bf16) =>
  Prog.lift (.store pb (rowRect t) (k0_pay1 x wi wo) Finset.univ (View.stores_vmem h_S256x256 ((hbf _).storeExact_slice rfl _ (row_packed t)) (fun _ => rfl)) (.inl rfl))

/-- A later layer of stream `t`, from the gathered rows. -/
def comp (l : Fin 3) (t : Fin 2) : PG F :=
  (Prog.lift (.load xb (rowRect t).toLoadRect (View.loadsAt_vmem h_S256x256))).bind fun (x : Vec F S256x256 .bf16) =>
  (Prog.lift (.load wiv (wiRect l).toLoadRect (View.loadsAt_vmem h_S1x256x512))).bind fun (wi : Vec F S1x256x512 .f32) =>
  (Prog.lift (.load wov (woRect l).toLoadRect (View.loadsAt_vmem h_S1x512x256))).bind fun (wo : Vec F S1x512x256 .f32) =>
  (Prog.lift (.load pb (rowRect t).toLoadRect (View.loadsAt_vmem h_S256x256))).bind fun (_ : Vec F S256x256 .bf16) =>
  Prog.lift (.store pb (rowRect t) (k0_pay7 x wi wo) Finset.univ (View.stores_vmem h_S256x256 ((hbf _).storeExact_slice rfl _ (row_packed t)) (fun _ => rfl)) (.inl rfl))

abbrev V32 (F : FTy → Type) := Vec F S32x256 .bf16

/-- The sum of the own partial chunk and the seven received, in the order added, rounded. -/
def redPay (o r0 r1 r2 r3 r4 r5 r6 : V32 F) : V32 F := k0_pay4 (k0_pay3 o r0 r1 r2 r3) r4 r5 r6

def ldR (c : Dev nD) (t : Fin 2) (j : Fin 7) : Prog (TpuEff nD τ sig (Elt F) Λ₀ .tc) (V32 F) :=
  Prog.lift (.load rb (rectP' c t j).toLoadRect (View.loadsAt_vmem h_S32x256))

/-- The reduction of stream `t`'s own chunk; `mid` runs between the loads and the store. -/
def red (mid : PG F) (c : Dev nD) (t : Fin 2) : PG F :=
  (Prog.lift (.load pb (rectM' c t).toLoadRect (View.loadsAt_vmem h_S32x256))).bind fun (o : V32 F) =>
  (ldR c t 0).bind fun r0 => (ldR c t 1).bind fun r1 => (ldR c t 2).bind fun r2 => (ldR c t 3).bind fun r3 =>
  (ldR c t 4).bind fun r4 => (ldR c t 5).bind fun r5 => (ldR c t 6).bind fun r6 =>
  mid.bind fun _ =>
  (Prog.lift (.load xb (rectM' c t).toLoadRect (View.loadsAt_vmem h_S32x256))).bind fun (_ : V32 F) =>
  Prog.lift (.store xb (rectM' c t) (redPay o r0 r1 r2 r3 r4 r5 r6) Finset.univ (View.stores_vmem h_S32x256 ((hbf _).storeExact_slice rfl _ (k0_off5_packedbf16 c t)) (fun _ => rfl)) (.inl rfl))

def full : Rect S512x256 := Rect.unit (s := S512x256) ![0, 0] S512x256.size inb_S512x256_S512x256_0_0

/-- The gathered rows widened into the staging buffer. -/
def widen : PG F :=
  (Prog.lift (.load xb full.toLoadRect (View.loadsAt_vmem h_S512x256))).bind fun (x : Vec F S512x256 .bf16) =>
  (Prog.lift (.load ob full.toLoadRect (View.loadsAt_vmem h_S512x256))).bind fun (_ : Vec F S512x256 .f32) =>
  Prog.lift (.store ob full (k0_pay25 x) Finset.univ (View.stores_vmem_bits_univ h_S512x256 rfl) (.inl rfl))

/-! ## The phases -/

def nop : PG F := .ret ⟨⟩

/-- Stream `t` of layer 0: compute, then send the seven chunks. -/
def first0 (c : Dev nD) (t : Fin 2) : PG F := seq [comp0 t, overPeers (rsSend c t)]
/-- Stream `t` of a later layer: the peers' rows, the partial buffer free again, compute, send. -/
def first (l : Fin 3) (c : Dev nD) (t : Fin 2) : PG F :=
  seq [overPeers (agWait c t), overPeers (rsSent c t), comp l t, overPeers (rsSend c t)]
/-- The second half of a layer for stream `t`: receive, reduce, send the reduced chunk to all. -/
def second (mid : PG F) (c : Dev nD) (t : Fin 2) : PG F :=
  seq [overPeers (rsWait c t), red mid c t, overPeers (agSend c t)]

def layer0 (c : Dev nD) : PG F :=
  seq [ldXWait, ldWinWait 0, ldWoutWait 0, first0 c 0, first0 c 1, second nop c 0, second nop c 1]
def layer (l : Fin 3) (c : Dev nD) : PG F :=
  seq [ldWinWait l, ldWoutWait l, first l c 0, first l c 1,
    second (overPeers (agSent c 0)) c 0, second (overPeers (agSent c 1)) c 1]

def start (c : Dev nD) : PG F :=
  seq [ldX, ldWin 0, ldWout 0, ldWin 1, ldWout 1, ldWin 2, ldWout 2, overPeers (signal c),
    semWaitWord barSem 7#32]

def drain (c : Dev nD) (t : Fin 2) : PG F := overPeers fun j => seq [rsSent c t j, agSent c t j]

def finish (c : Dev nD) : PG F :=
  seq [overPeers (agWait c 0), overPeers (agWait c 1), widen, stOut, drain c 0, drain c 1, stOutWait]

/-- The whole body. -/
def body : PG F :=
  (Prog.lift .deviceId).bind fun (c : Dev nD) => seq [start c, layer0 c, layer 1 c, layer 2 c, finish c]

set_option maxRecDepth 65536 in
theorem bodyAt0_eq (t : Fin cfg0.N) : bodyAt0 (F := F) t = body := by
  chain_rfl

end Cert.KernelIdeal.P
-- ==== Proof.Geo.lean ====
/- Peers, semaphores and chunks in closed form: the kernel's computed device ids and offsets are
   read off once for all devices, so that everything after speaks of "stream `t`, device `p`". -/
module

public import proofs.«01_k».proof.Proof.Shape

@[expose] public section

noncomputable section

namespace Cert.KernelIdeal.P

open Idealize.ShloMosaic Idealize.ShloMosaic.TcCoe
open Idealize.SL Idealize.SL.Sem
open Cert.KernelIdeal.Gen

variable {F : FTy → Type} [FloatOps F]

/-! ## Peers -/

theorem peer_ne (c : Dev nD) (j : Fin 7) : peer c j ≠ c := by revert c j; decide +kernel
theorem peer_inj (c : Dev nD) (j j' : Fin 7) (h : peer c j = peer c j') : j = j' := by
  revert c j j'; decide +kernel
theorem peer_surj (c s : Dev nD) (h : s ≠ c) : ∃ j, peer c j = s := by revert c s; decide +kernel
/-- The peer relation is symmetric, place by place. -/
theorem peer_peer (c : Dev nD) (j : Fin 7) : peer (peer c j) j = c := by revert c j; decide +kernel

/-! ## Chunks -/

theorem ck_inb (t : Fin 2) (p : Dev nD) : ∀ a, (![256 * t.val + 32 * p.val, 0] : Fin 2 → Nat) a + S32x256.size a ≤ S512x256.size a := by
  revert t p; decide +kernel
/-- Rows `256 t + 32 p ..` : the chunk of stream `t` that device `p` reduces. -/
def ckRect (t : Fin 2) (p : Dev nD) : Rect S512x256 :=
  Rect.unit (s := S512x256) ![256 * t.val + 32 * p.val, 0] S32x256.size (ck_inb t p)

theorem unit_congr {s : Shape} {o o' : Fin s.rank → Nat} {z : Fin s.rank → Nat} (h : ∀ a, o a + z a ≤ s.size a)
    (h' : ∀ a, o' a + z a ≤ s.size a) (e : o = o') : Rect.unit o z h = Rect.unit o' z h' := by subst e; rfl

theorem off3_val : ∀ (c : Dev nD) (t : Fin 2), k0_off3 c (BitVec.ofNat 32 (256 * t.val)) = ![256 * t.val + 32 * c.val, 0] := by decide +kernel
theorem off5_val : ∀ (c : Dev nD) (t : Fin 2), k0_off5 c (BitVec.ofNat 32 (256 * t.val)) = ![256 * t.val + 32 * c.val, 0] := by decide +kernel
theorem off4_val : ∀ (c : Dev nD) (t : Fin 2) (j : Fin 7), k0_off4 c (k0_off4_at (pr t j)).1 (k0_off4_at (pr t j)).2.1 (k0_off4_at (pr t j)).2.2.1 (k0_off4_at (pr t j)).2.2.2
    = ![256 * t.val + 32 * (peer c j).val, 0] := by decide +kernel
theorem off6_val : ∀ (c : Dev nD) (t : Fin 2) (j : Fin 7), k0_off6 c (k0_off6_at (pr t j)).1 (k0_off6_at (pr t j)).2.1 (k0_off6_at (pr t j)).2.2.1 (k0_off6_at (pr t j)).2.2.2
    = ![256 * t.val + 32 * (peer c j).val, 0] := by decide +kernel

theorem rectM_eq (c : Dev nD) (t : Fin 2) : rectM c t = ckRect t c := unit_congr _ _ (off3_val c t)
theorem rectM'_eq (c : Dev nD) (t : Fin 2) : rectM' c t = ckRect t c := unit_congr _ _ (off5_val c t)
theorem rectP_eq (c : Dev nD) (t : Fin 2) (j : Fin 7) : rectP c t j = ckRect t (peer c j) := unit_congr _ _ (off4_val c t j)
theorem rectP'_eq (c : Dev nD) (t : Fin 2) (j : Fin 7) : rectP' c t j = ckRect t (peer c j) := unit_congr _ _ (off6_val c t j)

abbrev ck (a : Memref sig .tc .vmem S512x256 .bf16) (t : Fin 2) (p : Dev nD) : Memref sig .tc .vmem S32x256 .bf16 :=
  a.slice (ckRect t p) (fun _ => rfl)

theorem slice_congr (a : Memref sig .tc .vmem S512x256 .bf16) (o o' : Fin 2 → Nat) (h : ∀ i, o i + S32x256.size i ≤ S512x256.size i)
    (h' : ∀ i, o' i + S32x256.size i ≤ S512x256.size i) (e : o = o') :
    (a.slice (Rect.unit (s := S512x256) o S32x256.size h) (fun _ => rfl) : Memref sig .tc .vmem S32x256 .bf16)
      = a.slice (Rect.unit (s := S512x256) o' S32x256.size h') (fun _ => rfl) := by subst e; rfl

theorem chM_eq (a : Memref sig .tc .vmem S512x256 .bf16) (c : Dev nD) (t : Fin 2) : chM a c t = ck a t c :=
  slice_congr a _ _ _ _ (off3_val c t)
theorem chP_eq (a : Memref sig .tc .vmem S512x256 .bf16) (c : Dev nD) (t : Fin 2) (j : Fin 7) : chP a c t j = ck a t (peer c j) :=
  slice_congr a _ _ _ _ (off4_val c t j)

/-! ## Semaphores -/

/-- DMA semaphore of array `a` (0 partial sent, 1 partial received, 2 rows sent, 3 rows received),
    stream `t`, device `p`. -/
def dsem (a : Fin 4) (t : Fin 2) (p : Dev nD) : DmaSem sig :=
  (⟨16 * a.val + 8 * t.val + p.val, by have := a.isLt; have := t.isLt; have := p.isLt; simp only [nD] at *; omega⟩ : Fin 72)
/-- The local copies' semaphores. -/
def lsem (k : Fin 8) : DmaSem sig := (⟨64 + k.val, by omega⟩ : Fin 72)

theorem semP7 (c : Dev nD) (t : Fin 2) (j : Fin 7) : semP cc0_scratch7 c t j = dsem 0 t (peer c j) := by revert c t j; decide +kernel
theorem semP8 (c : Dev nD) (t : Fin 2) (j : Fin 7) : semP cc0_scratch8 c t j = dsem 1 t (peer c j) := by revert c t j; decide +kernel
theorem semP9 (c : Dev nD) (t : Fin 2) (j : Fin 7) : semP cc0_scratch9 c t j = dsem 2 t (peer c j) := by revert c t j; decide +kernel
theorem semP10 (c : Dev nD) (t : Fin 2) (j : Fin 7) : semP cc0_scratch10 c t j = dsem 3 t (peer c j) := by revert c t j; decide +kernel
theorem semM8 (c : Dev nD) (t : Fin 2) : semM cc0_scratch8 c t = dsem 1 t c := by revert c t; decide +kernel
theorem semM10 (c : Dev nD) (t : Fin 2) : semM cc0_scratch10 c t = dsem 3 t c := by revert c t; decide +kernel
theorem semL_eq (k : Fin 8) : semL k = lsem k := by revert k; decide +kernel

/-! ## The element sets -/

/-- The chunks and the row streams as sets of elements. -/
def cset (t : Fin 2) (p : Dev nD) : Finset S512x256.Idx := (ckRect t p).set
def rset (t : Fin 2) : Finset S512x256.Idx := (rowRect t).set

theorem mem_cset {t : Fin 2} {p : Dev nD} {i : S512x256.Idx} :
    i ∈ cset t p ↔ 256 * t.val + 32 * p.val ≤ (i (0 : Fin 2)).val ∧ (i (0 : Fin 2)).val < 256 * t.val + 32 * p.val + 32 := by
  unfold cset ckRect
  rw [Rect.mem_set_unit]
  refine ⟨fun h => h (0 : Fin 2), fun h a => ?_⟩
  match a with
  | ⟨0, _⟩ => exact h
  | ⟨1, _⟩ => exact ⟨Nat.zero_le _, by have := (i (1 : Fin 2)).isLt; exact (Nat.zero_add _).symm ▸ this⟩

theorem mem_rset {t : Fin 2} {i : S512x256.Idx} :
    i ∈ rset t ↔ 256 * t.val ≤ (i (0 : Fin 2)).val ∧ (i (0 : Fin 2)).val < 256 * t.val + 256 := by
  unfold rset rowRect
  rw [Rect.mem_set_unit]
  refine ⟨fun h => h (0 : Fin 2), fun h a => ?_⟩
  match a with
  | ⟨0, _⟩ => exact h
  | ⟨1, _⟩ => exact ⟨Nat.zero_le _, by have := (i (1 : Fin 2)).isLt; exact (Nat.zero_add _).symm ▸ this⟩

theorem row_lt (i : S512x256.Idx) : (i (0 : Fin 2)).val < 512 := (i (0 : Fin 2)).isLt
/-- The stream and the chunk's device of a row. -/
def tOf (i : S512x256.Idx) : Fin 2 := ⟨(i (0 : Fin 2)).val / 256, by have := row_lt i; omega⟩
def pOf (i : S512x256.Idx) : Dev nD := ⟨(i (0 : Fin 2)).val % 256 / 32, by simp only [nD]; omega⟩

theorem mem_cset_iff {t : Fin 2} {p : Dev nD} {i : S512x256.Idx} : i ∈ cset t p ↔ t = tOf i ∧ p = pOf i := by
  rw [mem_cset, Fin.ext_iff, Fin.ext_iff]
  have := row_lt i; have := p.isLt; have := t.isLt
  simp only [nD, tOf, pOf] at *
  omega
theorem mem_rset_iff {t : Fin 2} {i : S512x256.Idx} : i ∈ rset t ↔ t = tOf i := by
  rw [mem_rset, Fin.ext_iff]
  have := row_lt i; have := t.isLt
  simp only [tOf] at *
  omega

theorem cset_disj (t t' : Fin 2) (p p' : Dev nD) (h : (t, p) ≠ (t', p')) : Disjoint (cset t p) (cset t' p') := by
  rw [Finset.disjoint_left]
  intro i hi hi'
  obtain ⟨rfl, rfl⟩ := mem_cset_iff.mp hi
  obtain ⟨rfl, rfl⟩ := mem_cset_iff.mp hi'
  exact h rfl
theorem cset_cover (t : Fin 2) : (Finset.univ : Finset (Dev nD)).biUnion (cset t) = rset t := by
  ext i
  simp only [Finset.mem_biUnion, Finset.mem_univ, true_and, mem_cset_iff, mem_rset_iff]
  exact ⟨fun ⟨_, h, _⟩ => h, fun h => ⟨_, h, rfl⟩⟩
theorem cset_cover_all : (Finset.univ : Finset (Fin 2 × Dev nD)).biUnion (fun x => cset x.1 x.2) = Finset.univ := by
  ext i
  simp only [Finset.mem_biUnion, Finset.mem_univ, true_and, mem_cset_iff, iff_true]
  exact ⟨(tOf i, pOf i), rfl, rfl⟩

end Cert.KernelIdeal.P

end
-- ==== Proof.Sched.lean ====
/- The protocol: which cell is paid by whom, how much, and with which contents in hand.

   Device `c` has, per row stream `t` and peer `p`, four DMA cells: partial chunk sent, partial chunk
   received, reduced rows sent, reduced rows received; one round per layer. Besides there are its
   barrier cell (seven payers) and eight cells of local copies. A received partial chunk carries
   with it the right to overwrite the sender's copy of this device's rows; received rows carry the
   receive slot back to the device that will fill it in the next layer. -/
module

public import proofs.«01_k».proof.Proof.Geo
public import Idealize.ShloMosaic.Lib.Pipeline.Launch
public import Idealize.ShloMosaic.Lib.Pipeline.Kit
public import Idealize.ShloMosaic.Lib.Tactic

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

variable (m : (ℓ : Loc nD τ sig) → Buf (Elt F) ℓ)

/-! ## The contents -/

abbrev Arr (F : FTy → Type) := Vec F S512x256 .bf16

/-- The rows of a stream, the rows of a chunk. -/
def rowsOf {e : EltTy} (t : Fin 2) (f : Vec F S512x256 e) : Vec F S256x256 e := fun i => f ((rowRect t).emb i)
def ckOf {e : EltTy} (t : Fin 2) (p : Dev nD) (f : Vec F S512x256 e) : Vec F S32x256 e := fun i => f ((ckRect t p).emb i)

/-- An array from its two streams, and from its sixteen chunks. -/
def unrow (g : Fin 2 → Vec F S256x256 .bf16) : Arr F := fun i =>
  g (tOf i) fun a => match a with
    | ⟨0, _⟩ => ⟨(i (0 : Fin 2)).val % 256, Nat.mod_lt _ (by decide)⟩
    | ⟨1, _⟩ => ⟨(i (1 : Fin 2)).val, (i (1 : Fin 2)).isLt⟩
def unck (g : Fin 2 → Dev nD → V32 F) : Arr F := fun i =>
  g (tOf i) (pOf i) fun a => match a with
    | ⟨0, _⟩ => ⟨(i (0 : Fin 2)).val % 32, Nat.mod_lt _ (by decide)⟩
    | ⟨1, _⟩ => ⟨(i (1 : Fin 2)).val, (i (1 : Fin 2)).isLt⟩

/-- The arguments. -/
def xArg (c : Dev nD) : Vec F S512x256 .f32 := m ((c : Thread nD τ).loc main_arg0)
def winArg (c : Dev nD) (l : Fin 3) : Buf (Elt F) ((aWin l).view.loc (c : Thread nD τ)) := m _
def woutArg (c : Dev nD) (l : Fin 3) : Buf (Elt F) ((aWout l).view.loc (c : Thread nD τ)) := m _

/-- The weight scratch buffers once every layer's slot has been loaded. -/
def winAll (c : Dev nD) : Vec F S3x256x512 .f32 := fun i =>
  (aWin (⟨(i (0 : Fin 3)).val, (i (0 : Fin 3)).isLt⟩ : Fin 3)).view.read (Elt F) (winArg m c _) fun a => match a with
    | ⟨0, _⟩ => ⟨(i (1 : Fin 3)).val, (i (1 : Fin 3)).isLt⟩
    | ⟨1, _⟩ => ⟨(i (2 : Fin 3)).val, (i (2 : Fin 3)).isLt⟩
def woutAll (c : Dev nD) : Vec F S3x512x256 .f32 := fun i =>
  (aWout (⟨(i (0 : Fin 3)).val, (i (0 : Fin 3)).isLt⟩ : Fin 3)).view.read (Elt F) (woutArg m c _) fun a => match a with
    | ⟨0, _⟩ => ⟨(i (1 : Fin 3)).val, (i (1 : Fin 3)).isLt⟩
    | ⟨1, _⟩ => ⟨(i (2 : Fin 3)).val, (i (2 : Fin 3)).isLt⟩
def winVec (c : Dev nD) (l : Fin 3) : Vec F S1x256x512 .f32 := fun i => winAll m c ((wiRect l).emb i)
def woutVec (c : Dev nD) (l : Fin 3) : Vec F S1x512x256 .f32 := fun i => woutAll m c ((woRect l).emb i)

/-- A device's partial product of layer 0, of a later layer. -/
def part0 (c : Dev nD) : Arr F := unrow fun t => k0_pay1 (rowsOf t (xArg m c)) (winVec m c 0) (woutVec m c 0)
def part (l : Fin 3) (x : Arr F) (c : Dev nD) : Arr F := unrow fun t => k0_pay7 (rowsOf t x) (winVec m c l) (woutVec m c l)
/-- The reduced rows: chunk `(t, p)` summed by device `p`. -/
def reduced (P : Dev nD → Arr F) : Arr F := unck fun t p =>
  redPay (ckOf t p (P p)) (ckOf t p (P (peer p 0))) (ckOf t p (P (peer p 1))) (ckOf t p (P (peer p 2)))
    (ckOf t p (P (peer p 3))) (ckOf t p (P (peer p 4))) (ckOf t p (P (peer p 5))) (ckOf t p (P (peer p 6)))

/-- Layer `l`'s partial products. -/
def pv : ℕ → Dev nD → Arr F
  | 0 => part0 m
  | l + 1 => part m (Fin.ofNat 3 (l + 1)) (reduced (pv l))
/-- The rows after layer `l`. -/
def xv (l : ℕ) : Arr F := reduced (pv m l)
/-- The receive buffer of device `c` in layer `l`: slot `(t, s)` holds chunk `(t, c)` of `s`'s partial. -/
def rv (l : ℕ) (c : Dev nD) : Arr F := unck fun t s => ckOf t c (pv m l s)
/-- The result. -/
def yv : Vec F S512x256 .f32 := k0_pay25 (xv m 2)

/-! ## Ownership of parts of buffers -/

/-- Elements `S` of the row buffer, the partial buffer, the receive buffer. -/
def xOn (c : Dev nD) (S : Finset S512x256.Idx) (q : PosShare TreeShare) (f : Arr F) : sProp 𝕄 :=
  ((c : Thread nD τ).loc cc0_scratch0) ↦[S]{q} f
def pOn (c : Dev nD) (S : Finset S512x256.Idx) (f : Arr F) : sProp 𝕄 :=
  ((c : Thread nD τ).loc cc0_scratch1) ↦[S]{fullShare} f
def rOn (c : Dev nD) (S : Finset S512x256.Idx) (f : Arr F) : sProp 𝕄 :=
  ((c : Thread nD τ).loc cc0_scratch2) ↦[S]{fullShare} f
/-- A chunk of the row buffer, a slot of the receive buffer, at contents that do not matter. -/
def xAny (c : Dev nD) (t : Fin 2) (p : Dev nD) : sProp 𝕄 := iprop(∃ f, xOn c (cset t p) fullShare f)
def rAny (c : Dev nD) (t : Fin 2) (p : Dev nD) : sProp 𝕄 := iprop(∃ f, rOn c (cset t p) f)
/-- The share of its own rows a device lends to its transfer to device `p`. -/
def qs (p : Dev nD) : PosShare TreeShare := Transfers.shareTok fullShare 8 p
def qk : PosShare TreeShare := Transfers.shareDrop fullShare 8

instance xOn_storable (c : Dev nD) (S) (q) (f : Arr F) : BI.Storable (upEmb : UEmb _ 𝕄) (xOn c S q f) := by unfold xOn; infer_instance
instance pOn_storable (c : Dev nD) (S) (f : Arr F) : BI.Storable (upEmb : UEmb _ 𝕄) (pOn c S f) := by unfold pOn; infer_instance
instance rOn_storable (c : Dev nD) (S) (f : Arr F) : BI.Storable (upEmb : UEmb _ 𝕄) (rOn c S f) := by unfold rOn; infer_instance
instance xAny_storable (c : Dev nD) (t) (p) : BI.Storable (upEmb : UEmb _ 𝕄) (xAny (F := F) c t p) := by unfold xAny; infer_instance
instance rAny_storable (c : Dev nD) (t) (p) : BI.Storable (upEmb : UEmb _ 𝕄) (rAny (F := F) c t p) := by unfold rAny; infer_instance

/-! ## The cells -/

/-- A device's semaphores by use. -/
inductive Cell where
  | bar
  | dm (a : Fin 4) (t : Fin 2) (p : Dev nD)
  | ld (k : Fin 8)
  deriving DecidableEq

def Cell.sem : Cell → SemLoc sig
  | .bar => .reg barSem
  | .dm a t p => .dma (dsem a t p)
  | .ld k => .dma (lsem k)

def kind : SemLoc sig → Cell
  | .reg _ => .bar
  | .dma q =>
    if h : q.val < 64 then .dm ⟨q.val / 16, by omega⟩ ⟨q.val % 16 / 8, by omega⟩ ⟨q.val % 8, Nat.mod_lt _ (by decide)⟩
    else .ld ⟨(q.val - 64) % 8, Nat.mod_lt _ (by decide)⟩

theorem kind_dm : ∀ a t p, kind (.dma (dsem a t p)) = .dm a t p := by decide +kernel
theorem kind_ld : ∀ k, kind (.dma (lsem k)) = .ld k := by decide +kernel
@[simp] theorem kind_sem (k : Cell) : kind k.sem = k := by
  cases k with
  | bar => rfl
  | dm a t p => exact kind_dm a t p
  | ld k => exact kind_ld k
theorem sem_kind_dma : ∀ q : Fin 72, (kind (.dma q)).sem = .dma q := by decide +kernel
theorem sem_kind (s : SemLoc sig) : (kind s).sem = s := by
  cases s with
  | reg s => exact congrArg SemLoc.reg (Subsingleton.elim (α := Fin 1) _ _)
  | dma q => exact sem_kind_dma q
theorem Cell.sem_inj {k k' : Cell} (h : k.sem = k'.sem) : k = k' := by rw [← kind_sem k, h, kind_sem]

abbrev cell (c : Dev nD) (k : Cell) : GSem nD τ sig := ((c : Thread nD τ), k.sem)

theorem cell_inj {c c' : Dev nD} {k k' : Cell} (h : cell c k = cell c' k') : c = c' ∧ k = k' :=
  ⟨congrArg (fun g : GSem nD τ sig => g.1.1) h, Cell.sem_inj (congrArg (fun g : GSem nD τ sig => g.2) h)⟩

/-- A chunk's credit. -/
abbrev N : ℕ := (ck rb 0 0).view.dmaCredit
theorem N_pos : 0 < N := View.dmaCredit_pos _ (by decide)

/-! ## The schedule -/

def winPay (c : Dev nD) (l : Fin 3) : sProp 𝕄 :=
  iprop((((c : Thread nD τ).loc cc0_scratch4) ↦[(wiRect l).set]{fullShare} (winAll m c))
    ∗ ((aWin l).view.loc (c : Thread nD τ) ↦[(aWin l).view.set]{fullShare} winArg m c l))
def woutPay (c : Dev nD) (l : Fin 3) : sProp 𝕄 :=
  iprop((((c : Thread nD τ).loc cc0_scratch5) ↦[(woRect l).set]{fullShare} (woutAll m c))
    ∗ ((aWout l).view.loc (c : Thread nD τ) ↦[(aWout l).view.set]{fullShare} woutArg m c l))
def xinPay (c : Dev nD) : sProp 𝕄 :=
  iprop((((c : Thread nD τ).loc cc0_scratch3) ↦{fullShare} (xArg m c)) ∗ (((c : Thread nD τ).loc main_arg0) ↦{fullShare} (xArg m c)))
def outPay (c : Dev nD) : sProp 𝕄 :=
  iprop((((c : Thread nD τ).loc main_v1) ↦{fullShare} (yv m)) ∗ (((c : Thread nD τ).loc cc0_scratch6) ↦{fullShare} (yv m)))

/-- What the local copies deliver. -/
def ldPay (c : Dev nD) : Fin 8 → sProp 𝕄
  | 0 => xinPay m c
  | 1 => winPay m c 0 | 2 => woutPay m c 0
  | 3 => winPay m c 1 | 4 => woutPay m c 1
  | 5 => winPay m c 2 | 6 => woutPay m c 2
  | 7 => outPay m c
def ldAmt : Fin 8 → ℕ
  | 0 => (xin).view.dmaCredit
  | 1 => (wiM 0).view.dmaCredit | 2 => (woM 0).view.dmaCredit
  | 3 => (wiM 1).view.dmaCredit | 4 => (woM 1).view.dmaCredit
  | 5 => (wiM 2).view.dmaCredit | 6 => (woM 2).view.dmaCredit
  | 7 => (out).view.dmaCredit

/-- What device `s` hands device `c` with its entry signal: the two slots it will be sent `c`'s chunks in. -/
def barPay (c s : Dev nD) : sProp 𝕄 := iprop(rAny s 0 c ∗ rAny s 1 c)
/-- What comes with device `p`'s partial chunk, `p`'s rows and, before the last layer, with `p`'s slot. -/
def rsPay (c : Dev nD) (t : Fin 2) (p : Dev nD) (l : ℕ) : sProp 𝕄 :=
  iprop(rOn c (cset t p) (rv m l c) ∗ xAny p t c ∗ reached ER (cell p (.dm 3 t c)) l)
def backPay (c : Dev nD) (t : Fin 2) (p : Dev nD) (l : ℕ) : sProp 𝕄 :=
  if l < 2 then iprop(rAny p t c ∗ reached ER (cell p (.dm 1 t c)) (l + 1)) else iprop(emp)
def agPay (c : Dev nD) (t : Fin 2) (p : Dev nD) (l : ℕ) : sProp 𝕄 :=
  iprop(xOn c (cset t p) fullShare (xv m l) ∗ backPay c t p l)
def dmPay (c : Dev nD) (t : Fin 2) (p : Dev nD) (l : ℕ) : Fin 4 → sProp 𝕄
  | 0 => pOn c (cset t p) (pv m l c)
  | 1 => rsPay m c t p l
  | 2 => xOn c (cset t c) (qs p) (xv m l)
  | 3 => agPay m c t p l

def duties (c : Dev nD) (k : Cell) (r : ℕ) : Finset (Dev nD) := match k with
  | .bar => if r = 0 then Finset.univ.erase c else ∅
  | .dm _ _ p => if r < 3 ∧ p ≠ c then {0} else ∅
  | .ld _ => if r = 0 then {0} else ∅
def amt : Cell → ℕ
  | .bar => 1
  | .dm _ _ _ => N
  | .ld k => ldAmt k
def pay (c : Dev nD) (k : Cell) (r : ℕ) (d : Dev nD) : sProp 𝕄 := match k with
  | .bar => barPay c d
  | .dm a t p => dmPay m c t p r a
  | .ld k => ldPay m c k

theorem ldAmt_pos : ∀ k, 0 < ldAmt k := by
  intro k; fin_cases k <;> exact View.dmaCredit_pos _ (by decide)
theorem amt_pos (k : Cell) : 0 < amt k := by
  cases k with
  | bar => exact Nat.one_pos
  | dm a t p => exact N_pos
  | ld k => exact ldAmt_pos k

def Rd : Rounds.Schedule (GSem nD τ sig) (Dev nD) 𝕄 where
  duties g r := if g.1.2 = .tc then duties g.1.1 (kind g.2) r else ∅
  unitless _ := False
  amount g _ _ := amt (kind g.2)
  payload g r d := pay m g.1.1 (kind g.2) r d
  amount_pos g _ _ _ := amt_pos _

theorem Rd_duties (c : Dev nD) (k : Cell) (r : ℕ) : (Rd (F := F) m).duties (cell c k) r = duties c k r := by
  dsimp only [Rd]
  refine (if_pos rfl).trans ?_
  exact congrArg (duties c · r) (kind_sem k)
theorem Rd_amount (c : Dev nD) (k : Cell) (r : ℕ) (d : Dev nD) : (Rd (F := F) m).amount (cell c k) r d = amt k :=
  congrArg amt (kind_sem k)
theorem Rd_payload (c : Dev nD) (k : Cell) (r : ℕ) (d : Dev nD) : (Rd (F := F) m).payload (cell c k) r d = pay m c k r d :=
  congrArg (pay m c · r d) (kind_sem k)

instance winPay_storable (c : Dev nD) (l) : BI.Storable (upEmb : UEmb _ 𝕄) (winPay m c l) := by unfold winPay; infer_instance
instance woutPay_storable (c : Dev nD) (l) : BI.Storable (upEmb : UEmb _ 𝕄) (woutPay m c l) := by unfold woutPay; infer_instance
instance xinPay_storable (c : Dev nD) : BI.Storable (upEmb : UEmb _ 𝕄) (xinPay m c) := by unfold xinPay; infer_instance
instance outPay_storable (c : Dev nD) : BI.Storable (upEmb : UEmb _ 𝕄) (outPay m c) := by unfold outPay; infer_instance
instance ldPay_storable (c : Dev nD) (k) : BI.Storable (upEmb : UEmb _ 𝕄) (ldPay m c k) := by
  unfold ldPay; split <;> infer_instance
instance barPay_storable (c s : Dev nD) : BI.Storable (upEmb : UEmb _ 𝕄) (barPay (F := F) c s) := by unfold barPay; infer_instance
instance rsPay_storable (c : Dev nD) (t p l) : BI.Storable (upEmb : UEmb _ 𝕄) (rsPay m c t p l) := by unfold rsPay; infer_instance
instance backPay_storable (c : Dev nD) (t p l) : BI.Storable (upEmb : UEmb _ 𝕄) (backPay (F := F) c t p l) := by
  unfold backPay; split <;> infer_instance
instance agPay_storable (c : Dev nD) (t p l) : BI.Storable (upEmb : UEmb _ 𝕄) (agPay m c t p l) := by unfold agPay; infer_instance
instance dmPay_storable (c : Dev nD) (t p l a) : BI.Storable (upEmb : UEmb _ 𝕄) (dmPay m c t p l a) := by
  unfold dmPay; split <;> infer_instance
instance Rd_storable (g : GSem nD τ sig) (r : ℕ) (d : Dev nD) : BI.Storable (upEmb : UEmb _ 𝕄) ((Rd (F := F) m).payload g r d) := by
  show BI.Storable upEmb (pay m g.1.1 (kind g.2) r d)
  unfold pay; split <;> infer_instance

theorem duties_later (c : Dev nD) (k : Cell) (r : ℕ) (h : 3 ≤ r) : duties c k r = ∅ := by
  cases k with
  | bar => exact if_neg (by omega)
  | dm a t p => exact if_neg (by omega)
  | ld k => exact if_neg (by omega)

/-! ## The levels -/

def L (g : GSem nD τ sig) : Finset ℕ := if g.1.2 = .tc then Finset.range 3 else ∅
def lvK (k : Cell) (l : ℕ) : ℕ := match k with
  | .dm 1 _ _ => 2 * l + 1
  | .dm 3 _ _ => 2 * l + 2
  | _ => 0
def lv (g : GSem nD τ sig) (l : ℕ) : ℕ := lvK (kind g.2) l

theorem L_of_ne (g : GSem nD τ sig) (h : g.1.2 ≠ .tc) : L g = ∅ := if_neg h
theorem L_cell (c : Dev nD) (k : Cell) : L (cell c k) = Finset.range 3 := if_pos rfl
theorem lv_cell (c : Dev nD) (k : Cell) (l : ℕ) : lv (cell c k) l = lvK k l := congrArg (lvK · l) (kind_sem k)

/-! ## What a device still owes: its remote credits in program order -/

/-- The `i`-th remote credit a device makes: to which peer, on which cell, in which layer. Seven signals
    first; then, per layer, stream 0's and stream 1's partial chunks, stream 0's and stream 1's rows. -/
def sJ (i : ℕ) : Fin 7 := ⟨i % 7, Nat.mod_lt _ (by decide)⟩
def sT (i : ℕ) : Fin 2 := ⟨(i / 7 - 1) % 2, Nat.mod_lt _ (by decide)⟩
def sA (i : ℕ) : Fin 4 := if (i / 7 - 1) % 4 < 2 then 1 else 3
def sL (i : ℕ) : ℕ := (i / 7 - 1) / 4
def sCell (c : Dev nD) (i : ℕ) : Cell := if i < 7 then .bar else .dm (sA i) (sT i) c
def sTally (c : Dev nD) (i : ℕ) : CellTallies nD τ sig ℕ := tallyAt (cell (peer c (sJ i)) (sCell c i)) (sL i) (amt (sCell c i))
/-- What is owed once `n` of the 91 have been made. -/
def due (c : Dev nD) (n : ℕ) : CellTallies nD τ sig ℕ := ∑ i ∈ Finset.Ico n 91, sTally c i

theorem due_step (c : Dev nD) {n : ℕ} (h : n < 91) : due c n = due c (n + 1) + sTally c n := by
  have hs : Finset.Ico n 91 = insert n (Finset.Ico (n + 1) 91) := by
    ext i; rw [Finset.mem_insert, Finset.mem_Ico, Finset.mem_Ico]; omega
  unfold due; rw [hs, Finset.sum_insert (by rw [Finset.mem_Ico]; omega), add_comm]
theorem due_end (c : Dev nD) : due c 91 = 0 := by unfold due; rw [Finset.Ico_self, Finset.sum_empty]

/-- The places of the credits in that order. -/
def nBar (j : ℕ) : ℕ := j
def nRs (l t : ℕ) : ℕ := 7 + 28 * l + 7 * t
def nAg (l t : ℕ) : ℕ := 21 + 28 * l + 7 * t

theorem sTally_bar (c : Dev nD) (j : Fin 7) : sTally c j.val = tallyAt (cell (peer c j) .bar) 0 1 := by
  have h1 : sJ j.val = j := Fin.ext (Nat.mod_eq_of_lt j.isLt)
  have h2 : sCell c j.val = .bar := if_pos j.isLt
  have h3 : sL j.val = 0 := by unfold sL; omega
  unfold sTally; rw [h1, h2, h3]; rfl
theorem sTally_rs (c : Dev nD) (l : ℕ) (t : Fin 2) (j : Fin 7) :
    sTally c (nRs l t.val + j.val) = tallyAt (cell (peer c j) (.dm 1 t c)) l N := by
  have hj := j.isLt; have ht := t.isLt
  have h1 : sJ (nRs l t.val + j.val) = j := Fin.ext (by unfold sJ nRs; dsimp only; omega)
  have ht' : sT (nRs l t.val + j.val) = t := Fin.ext (by unfold sT nRs; dsimp only; omega)
  have ha : sA (nRs l t.val + j.val) = 1 := if_pos (by unfold nRs; omega)
  have h2 : sCell c (nRs l t.val + j.val) = .dm 1 t c := by unfold sCell; rw [if_neg (by unfold nRs; omega), ha, ht']
  have h3 : sL (nRs l t.val + j.val) = l := by unfold sL nRs; omega
  unfold sTally; rw [h1, h2, h3]; rfl
theorem sTally_ag (c : Dev nD) (l : ℕ) (t : Fin 2) (j : Fin 7) :
    sTally c (nAg l t.val + j.val) = tallyAt (cell (peer c j) (.dm 3 t c)) l N := by
  have hj := j.isLt; have ht := t.isLt
  have h1 : sJ (nAg l t.val + j.val) = j := Fin.ext (by unfold sJ nAg; dsimp only; omega)
  have ht' : sT (nAg l t.val + j.val) = t := Fin.ext (by unfold sT nAg; dsimp only; omega)
  have ha : sA (nAg l t.val + j.val) = 3 := if_neg (by unfold nAg; omega)
  have h2 : sCell c (nAg l t.val + j.val) = .dm 3 t c := by unfold sCell; rw [if_neg (by unfold nAg; omega), ha, ht']
  have h3 : sL (nAg l t.val + j.val) = l := by unfold sL nAg; omega
  unfold sTally; rw [h1, h2, h3]; rfl

/-- The level of the `i`-th credit. -/
def lvS (i : ℕ) : ℕ := if i < 7 then 0 else 2 * ((i / 7 - 1) / 4) + 1 + (i / 7 - 1) % 4 / 2

theorem lv_sCell (c : Dev nD) (i : ℕ) : lvK (sCell c i) (sL i) = lvS i := by
  unfold sCell lvS
  by_cases h : i < 7
  · rw [if_pos h, if_pos h]; rfl
  · rw [if_neg h, if_neg h]
    unfold sA
    by_cases h2 : (i / 7 - 1) % 4 < 2
    · rw [if_pos h2]; show 2 * sL i + 1 = _; unfold sL; omega
    · rw [if_neg h2]; show 2 * sL i + 2 = _; unfold sL; omega

theorem due_pos {c : Dev nD} {n : ℕ} {g : GSem nD τ sig} {u : ℕ} (h : 0 < due c n g u) :
    ∃ i, n ≤ i ∧ i < 91 ∧ g = cell (peer c (sJ i)) (sCell c i) ∧ u = sL i := by
  unfold due at h
  rw [Finset.sum_apply, Finsupp.finset_sum_apply] at h
  obtain ⟨i, hi, hne⟩ := Finset.exists_ne_zero_of_sum_ne_zero (Nat.pos_iff_ne_zero.mp h)
  have hi := Finset.mem_Ico.mp hi
  refine ⟨i, hi.1, hi.2, ?_⟩
  unfold sTally at hne
  rw [tallyAt_apply] at hne
  by_contra hn
  exact hne (if_neg hn)

/-- A wait below everything still owed may be made. -/
theorem mayWait (c : Dev nD) (k : Cell) (l n : ℕ) (hl : l < 3) (h : ∀ i, n ≤ i → i < 91 → lvK k l < lvS i) :
    (levAts L lv : sProp 𝕄) ⊢ MayWait (c : Thread nD τ) k.sem l (due c n) :=
  MayOwe.of_cut (L := L) (lev := lv) (lvK k l)
    (fun p hp => by rw [Finset.mem_singleton.mp hp]; exact (L_cell c k).symm ▸ Finset.mem_range.mpr hl)
    (fun g u hg => by
      obtain ⟨i, h1, h2, rfl, rfl⟩ := due_pos hg
      rw [L_cell, Finset.mem_range]; unfold sL; omega)
    (fun p hp => by rw [Finset.mem_singleton.mp hp]; exact le_of_eq (lv_cell c k l))
    (fun g u hg => by
      obtain ⟨i, h1, h2, rfl, rfl⟩ := due_pos hg
      rw [lv_cell, lv_sCell]; exact h i h1 h2)

end Cert.KernelIdeal.P

end
-- ==== Proof.Ops.lean ====
/- One rule per kind of operation: a send, a wait, a local copy, a signal, each in terms of the cells
   of the protocol, and the rules that put operations in sequence and over the seven peers. -/
module

public import proofs.«01_k».proof.Proof.Sched

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The weakest precondition on a device, sequences -/

abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_step {c : Dev nD} {α β : Type} {p : Prog (TpuEff nD τ sig (Elt F) Λ₀ .tc) α} {k : α → Prog (TpuEff nD τ sig (Elt F) Λ₀ .tc) β}
    {P : sProp 𝕄} {Q : α → sProp 𝕄} {Φ : β → sProp 𝕄} (h : P ⊢ Wp c p Q) :
    P ⊢ iprop((∀ a, Q a -∗ Wp c (k a) Φ) -∗ Wp c (p.bind k) Φ) := by
  show P ⊢ iprop((∀ a, Q a -∗ Wp c (k a) Φ) -∗ Wp c (p >>= k) Φ)
  unfold Wp
  rw [wp_bind]
  exact h.trans (wp_wand _ _ _)

theorem step {c : Dev nD} {p : PG F} {ps : List (PG F)} {P Q : sProp 𝕄} {Φ : PUnit → sProp 𝕄}
    (h : P ⊢ Wp c p fun _ => Q) : P ⊢ iprop((Q -∗ Wp c (seq ps) Φ) -∗ Wp c (seq (p :: ps)) Φ) := by
  iintro HP HK
  iapply (wp_step (k := fun _ => seq ps) h) $$ HP
  iintro %a HQ
  iapply HK; iexact HQ

theorem done {c : Dev nD} {Q : PUnit → sProp 𝕄} : Q ⟨⟩ ⊢ Wp c (seq (F := F) []) Q := by
  show Q ⟨⟩ ⊢ Wp c (.ret ⟨⟩) Q
  unfold Wp
  rw [wp_ret]; exact fupd_intro

theorem wp_frame' {c : Dev nD} {p : PG F} {P Q R : sProp 𝕄} (h : P ⊢ Wp c p fun _ => Q) :
    iprop(P ∗ R) ⊢ Wp c p fun _ => iprop(Q ∗ R) :=
  (sep_mono_left h).trans (wp_frame_r _ _ _)

theorem bigSep7 (A : Fin 7 → sProp 𝕄) : bigSep Finset.univ A = iprop(A 0 ∗ A 1 ∗ A 2 ∗ A 3 ∗ A 4 ∗ A 5 ∗ A 6) := by
  rw [bigSep_univ_eq_bigSepL [0, 1, 2, 3, 4, 5, 6] (by decide) (by decide)]
  simp only [bigSepL_cons_cons, bigSepL_singleton]
  rfl

/-- The same operation for each peer: what holds between them counts up, the rest is per peer. -/
theorem peers {c : Dev nD} {f : Fin 7 → PG F} (Φ : ℕ → sProp 𝕄) {A B : Fin 7 → sProp 𝕄}
    (h : ∀ j : Fin 7, iprop(Φ j.val ∗ A j) ⊢ Wp c (f j) fun _ => iprop(Φ (j.val + 1) ∗ B j)) :
    iprop(Φ 0 ∗ bigSep Finset.univ A) ⊢ Wp c (overPeers f) fun _ => iprop(Φ 7 ∗ bigSep Finset.univ B) := by
  rw [bigSep7, bigSep7]
  unfold overPeers
  iintro ⟨HΦ, A0, A1, A2, A3, A4, A5, A6⟩
  iapply (step (P := iprop(Φ 0 ∗ A 0)) (Q := iprop(Φ 1 ∗ B 0)) (h 0)) $$ [HΦ A0]; · isplitl [HΦ] <;> iassumption
  iintro ⟨HΦ, B0⟩
  iapply (step (P := iprop(Φ 1 ∗ A 1)) (Q := iprop(Φ 2 ∗ B 1)) (h 1)) $$ [HΦ A1]; · isplitl [HΦ] <;> iassumption
  iintro ⟨HΦ, B1⟩
  iapply (step (P := iprop(Φ 2 ∗ A 2)) (Q := iprop(Φ 3 ∗ B 2)) (h 2)) $$ [HΦ A2]; · isplitl [HΦ] <;> iassumption
  iintro ⟨HΦ, B2⟩
  iapply (step (P := iprop(Φ 3 ∗ A 3)) (Q := iprop(Φ 4 ∗ B 3)) (h 3)) $$ [HΦ A3]; · isplitl [HΦ] <;> iassumption
  iintro ⟨HΦ, B3⟩
  iapply (step (P := iprop(Φ 4 ∗ A 4)) (Q := iprop(Φ 5 ∗ B 4)) (h 4)) $$ [HΦ A4]; · isplitl [HΦ] <;> iassumption
  iintro ⟨HΦ, B4⟩
  iapply (step (P := iprop(Φ 5 ∗ A 5)) (Q := iprop(Φ 6 ∗ B 5)) (h 5)) $$ [HΦ A5]; · isplitl [HΦ] <;> iassumption
  iintro ⟨HΦ, B5⟩
  iapply (step (P := iprop(Φ 6 ∗ A 6)) (Q := iprop(Φ 7 ∗ B 6)) (h 6)) $$ [HΦ A6]; · isplitl [HΦ] <;> iassumption
  iintro ⟨HΦ, B6⟩
  iapply done
  isplitl [HΦ]; · iexact HΦ
  isplitl [B0]; · iexact B0
  isplitl [B1]; · iexact B1
  isplitl [B2]; · iexact B2
  isplitl [B3]; · iexact B3
  isplitl [B4]; · iexact B4
  isplitl [B5]; · iexact B5
  iexact B6

/-- What holds for every device is what holds for this one and for its seven peers. -/
theorem bigSep_dev (c : Dev nD) (A : Dev nD → sProp 𝕄) :
    bigSep Finset.univ A = iprop(A c ∗ bigSep Finset.univ fun j : Fin 7 => A (peer c j)) := by
  rw [← Finset.insert_erase (Finset.mem_univ c), bigSep_insert (Finset.notMem_erase c _)]
  congr 1
  have h : Finset.univ.erase c = Finset.univ.image (peer c) := by
    ext s
    simp only [Finset.mem_erase, Finset.mem_univ, and_true, Finset.mem_image, true_and]
    exact ⟨fun hs => peer_surj c s hs, fun ⟨j, hj⟩ => hj ▸ peer_ne c j⟩
  rw [h, bigSep_image_of_injOn fun a _ b _ hab => peer_inj c a b hab]

/-! ## What every device knows, what it holds throughout -/

/-- Every cell runs the protocol and is past its start. -/
def known (g : GSem nD τ sig) : sProp 𝕄 := iprop((∃ κ, cellInv ER (Rd m) κ g) ∗ reached ER g 0)
instance known_persistent (g : GSem nD τ sig) : BI.Persistent (known m g) := by unfold known; infer_instance
def records : sProp 𝕄 := bigSep Finset.univ fun x : Dev nD × SemLoc sig => known m ((x.1 : Thread nD τ), x.2)
instance records_persistent : BI.Persistent (records m) := by unfold records; infer_instance

theorem records_get (c : Dev nD) (k : Cell) : records m ⊢ known m (cell c k) :=
  bigSep_elim (Finset.mem_univ (c, k.sem))

/-- The records, the levels, and what is owed once `n` remote credits have been made. -/
def St (c : Dev nD) (n : ℕ) : sProp 𝕄 :=
  iprop(records m ∗ levAts L lv ∗ ∃ W, owes (c : Thread nD τ) (due c n) W)

/-! ## The operations -/

theorem mem_Rd (c : Dev nD) (k : Cell) (r : ℕ) (d : Dev nD) (h : d ∈ duties c k r) : d ∈ (Rd (F := F) m).duties (cell c k) r :=
  (Rd_duties m c k r).symm ▸ h
theorem duties_dm (c : Dev nD) (a : Fin 4) (t : Fin 2) (p : Dev nD) (l : ℕ) (hl : l < 3) (h : p ≠ c) : duties c (.dm a t p) l = {0} :=
  if_pos ⟨hl, h⟩

theorem send_ok (c s : Dev nD) {src dst : Memref sig .tc .vmem S32x256 .bf16} {sS sR : DmaSem sig}
    {hsc : (dst : Memref sig (Dev.tc s : Thread nD τ).2.kind .vmem S32x256 .bf16).view.ref.isScScratch = false}
    {hsrc : src.view.WordExact} {hdst : dst.view.WordExact}
    {hsem : DmaTarget.Typed .vmem (.dma sR) (.remote (Dev.tc s : Thread nD τ) dst (.dma sS) hsc)}
    {q : PosShare TreeShare} {fs : Buf (Elt F) (src.view.loc (c : Thread nD τ))} {fd : Buf (Elt F) (dst.view.loc (s : Thread nD τ))}
    {Fr : sProp 𝕄} {n : ℕ} (l : ℕ) (a₁ a₂ : Fin 4) (t : Fin 2) (p₁ p₂ : Dev nD)
    (hS : sS = dsem a₁ t p₁) (hR : sR = dsem a₂ t p₂) (hl : l < 3) (h1 : p₁ ≠ c) (h2 : p₂ ≠ s) (hn : n < 91)
    (hO : sTally c n = tallyAt (cell s (.dm a₂ t p₂)) l N) (hN : dst.view.dmaCredit = N)
    (hpay₁ : (src.view.loc (c : Thread nD τ) ↦[src.view.set]{q} fs) ⊢ dmPay m c t p₁ l a₁)
    (hpay₂ : iprop((dst.view.loc (s : Thread nD τ) ↦[dst.view.set]{fullShare} (dst.view.write (Elt F) fd (src.view.read (Elt F) fs) Finset.univ)) ∗ Fr)
      ⊢ dmPay m s t p₂ l a₂) :
    iprop(St m c n ∗ (src.view.loc (c : Thread nD τ) ↦[src.view.set]{q} fs)
        ∗ ((dst.view.loc (s : Thread nD τ) ↦[dst.view.set]{fullShare} fd) ∗ Fr)
        ∗ dutyTok ER (cell c (.dm a₁ t p₁)) l 0 ∗ reached ER (cell c (.dm a₁ t p₁)) l
        ∗ dutyTok ER (cell s (.dm a₂ t p₂)) l 0 ∗ reached ER (cell s (.dm a₂ t p₂)) l)
      ⊢ Wp c (Prog.lift (.enqueueDma src (.remote (Dev.tc s) dst (.dma sS) hsc) (.dma sR) hsrc hdst hsem)) fun _ =>
          iprop(St m c (n + 1) ∗ cred (tallyAt (cell c (.dm a₁ t p₁)) l N)) := by
  subst hS hR
  unfold St
  iintro ⟨⟨#HR, #HL, %W, HO⟩, Hs, Hd, Ht1, Hr1, Ht2, Hr2⟩
  ihave HK1 := (records_get m c (.dm a₁ t p₁)) $$ HR
  ihave HK2 := (records_get m s (.dm a₂ t p₂)) $$ HR
  unfold known
  icases HK1 with ⟨⟨%κ₁, HI1⟩, -⟩
  icases HK2 with ⟨⟨%κ₂, HI2⟩, -⟩
  iapply (Rounds.wp_send_pointsTo_with 𝒱₀ ER (Rd m) (c : Thread nD τ) none (κ₁ := κ₁) (κ₂ := κ₂)
    (r₁ := l) (r₂ := l) (d₁ := 0) (d₂ := 0) (fd := fd) (F := Fr)
    (mem_Rd m c (.dm a₁ t p₁) l 0 ((duties_dm c a₁ t p₁ l hl h1) ▸ Finset.mem_singleton_self _))
    (mem_Rd m s (.dm a₂ t p₂) l 0 ((duties_dm s a₂ t p₂ l hl h2) ▸ Finset.mem_singleton_self _))
    l l N hN (Rd_amount m c (.dm a₁ t p₁) l 0) (Rd_amount m s (.dm a₂ t p₂) l 0) (due c (n + 1))
    ((due_step c hn).trans (by rw [hO]))
    (hpay₁.trans (Entails.of_eq (Rd_payload m c (.dm a₁ t p₁) l 0).symm))
    (hpay₂.trans (Entails.of_eq (Rd_payload m s (.dm a₂ t p₂) l 0).symm))) $$ [Hs Hd HO Ht1 Hr1 Ht2 Hr2 HI1 HI2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  rw [wp_ret]; imodintro
  isplitl [HO]
  · isplitr; · iexact HR
    isplitr; · iexact HL
    iexists W; iexact HO
  iexact Hc

theorem wait_ok (c : Dev nD) {w : TpuEff nD τ sig (Elt F) Λ₀ .tc PUnit} {sm : SemLoc sig} {k' : ℕ} (k : Cell) (r n l : ℕ)
    (hw : ∀ K : PUnit → sProp 𝕄, wpE (defs₀ (F := F)) 𝒱₀ (c : Thread nD τ) none Set.univ w K = waitSpec (c : Thread nD τ) Set.univ sm k' K)
    (hs : sm = k.sem) (hk : (Rd (F := F) m).expect (cell c k) r = k') (hl : l < 3) (h : ∀ i, n ≤ i → i < 91 → lvK k l < lvS i) :
    iprop(St m c n ∗ cred (tallyAt (cell c k) l k') ∗ atPos ER (cell c k) r ∅ 0)
      ⊢ Wp c (Prog.lift w) fun _ =>
          iprop(St m c n ∗ atPos ER (cell c k) (r + 1) ∅ 0 ∗ reached ER (cell c k) (r + 1) ∗ bigSep (duties c k r) fun d => pay m c k r d) := by
  subst hs
  unfold St
  iintro ⟨⟨#HR, #HL, %W, HO⟩, Hc, Hat⟩
  ihave HK1 := (records_get m c k) $$ HR
  unfold known
  icases HK1 with ⟨⟨%κ₁, HI1⟩, -⟩
  iapply (Rounds.wp_wait_rest_token 𝒱₀ ER (Rd m) (c : Thread nD τ) none (κ := κ₁) hw (Set.mem_univ _) l (O := due c n) (W := W) (R := r) (m := 0) (T := ∅)
      (by rw [hk, Nat.zero_add])) $$ [Hc HO Hat HI1]
  · isplitl [HI1]; · iexact HI1
    isplitl [Hc]; · iexact Hc
    isplitl [HO]; · iexact HO
    isplitr; · iapply (mayWait c k l n hl h); iexact HL
    iexact Hat
  iintro ⟨HO, Hat, Hr, Hp⟩
  rw [wp_ret]; imodintro
  isplitl [HO]
  · isplitr; · iexact HR
    isplitr; · iexact HL
    iexists _; iexact HO
  isplitl [Hat]; · iexact Hat
  isplitl [Hr]; · iexact Hr
  rw [Finset.sdiff_empty, Rd_duties]
  iapply (Entails.of_eq (bigSep_congr fun d _ => Rd_payload m c k r d)) $$ Hp

theorem expect_one (c : Dev nD) (k : Cell) (r : ℕ) (hd : duties c k r = {0}) : (Rd (F := F) m).expect (cell c k) r = amt k := by
  unfold Schedule.expect Schedule.amountOf
  rw [Rd_duties, hd, Finset.sum_singleton, Rd_amount]

/-- A DMA wait for a cell's only duty of the round. -/
theorem waitDma_ok (c : Dev nD) {sp sp' : Space} {s s' : Shape} {e e' : EltTy} {κ' : Kind} {sm : DmaSem sig} {src : Memref sig .tc sp' s' e'} {dst : Memref sig κ' sp s e}
    {hsrc : src.view.WordExact} {hdst : dst.view.WordExact} (k : Cell) (r n l : ℕ)
    (hs : (.dma sm : SemLoc sig) = k.sem) (hd : duties c k r = {0}) (ha : dst.view.dmaCredit = amt k) (hl : l < 3)
    (h : ∀ i, n ≤ i → i < 91 → lvK k l < lvS i) :
    iprop(St m c n ∗ cred (tallyAt (cell c k) l (amt k)) ∗ atPos ER (cell c k) r ∅ 0)
      ⊢ Wp c (Prog.lift (.waitDma2 sm src dst hsrc hdst)) fun _ =>
          iprop(St m c n ∗ atPos ER (cell c k) (r + 1) ∅ 0 ∗ reached ER (cell c k) (r + 1) ∗ pay m c k r 0) := by
  have h1 := wait_ok m c (w := .waitDma2 sm src dst hsrc hdst) k r n l (wpE_waitDma2_eq 𝒱₀ (c : Thread nD τ) none Set.univ) hs
    ((expect_one m c k r hd).trans ha.symm) hl h
  rw [hd, bigSep_singleton, ha] at h1
  exact h1

theorem copy_ok (c : Dev nD) {sp sp' : Space} {s : Shape} {e : EltTy} {src : Memref sig .tc sp s e} {dst : Memref sig .tc sp' s e} {sm : DmaSem sig}
    {hsrc : src.view.WordExact} {hdst : dst.view.WordExact} {hsem : DmaTarget.Typed sp (.dma sm) (.here dst : DmaTarget nD τ sig (.tc : Proc τ) sp' s e)}
    {q : PosShare TreeShare} {fs : Buf (Elt F) (src.view.loc (c : Thread nD τ))} {fd : Buf (Elt F) (dst.view.loc (c : Thread nD τ))} (n : ℕ)
    (k : Fin 8) (hs : sm = lsem k) (hN : dst.view.dmaCredit = ldAmt k)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ ldPay m c k) :
    iprop(St m c n ∗ (src.view.loc (c : Thread nD τ) ↦[src.view.set]{q} fs) ∗ (dst.view.loc (c : Thread nD τ) ↦[dst.view.set]{fullShare} fd)
        ∗ dutyTok ER (cell c (.ld k)) 0 0)
      ⊢ Wp c (Prog.lift (.enqueueDma src (.here dst) (.dma sm) hsrc hdst hsem)) fun _ =>
          iprop(St m c n ∗ cred (tallyAt (cell c (.ld k)) 0 (ldAmt k))) := by
  subst hs
  unfold St
  iintro ⟨⟨#HR, #HL, HW⟩, Hs, Hd, Ht⟩
  ihave HK1 := (records_get m c (.ld k)) $$ HR
  unfold known
  icases HK1 with ⟨⟨%κ₁, HI1⟩, Hr⟩
  iapply (Rounds.wp_copy_pointsTo 𝒱₀ ER (Rd m) (c : Thread nD τ) none (κ := κ₁) (r := 0) (d := 0) (fd := fd)
    (mem_Rd m c (.ld k) 0 0 (Finset.mem_singleton_self _))
    0 (ldAmt k) hN (Rd_amount m c (.ld k) 0 0) (hpay.trans (Entails.of_eq (Rd_payload m c (.ld k) 0 0).symm))) $$ [Hs Hd Ht Hr HI1]
  · isplitl [HI1]; · iexact HI1
    isplitl [Hs]; · iexact Hs
    isplitl [Hd]; · iexact Hd
    isplitl [Ht]; · iexact Ht
    iexact Hr
  iintro Hc
  rw [wp_ret]; imodintro
  isplitl [HW]
  · isplitr; · iexact HR
    isplitr; · iexact HL
    iexact HW
  iexact Hc

theorem signal_ok (c : Dev nD) (j : Fin 7) :
    iprop(St m c j.val ∗ dutyTok ER (cell (peer c j) .bar) 0 c ∗ barPay (peer c j) c)
      ⊢ Wp c (signal c j) fun _ => St m c (j.val + 1) := by
  unfold St
  iintro ⟨⟨#HR, #HL, %W, HO⟩, Ht, Hp⟩
  ihave HK1 := (records_get m (peer c j) .bar) $$ HR
  unfold known
  icases HK1 with ⟨⟨%κ₁, HI1⟩, Hr⟩
  unfold signal semSignalWord
  iapply (Rounds.wp_signal 𝒱₀ ER (Rd m) (c : Thread nD τ) none (dst := (peer c j : Thread nD τ)) (κ := κ₁) (r := 0) (d := c)
    (mem_Rd m (peer c j) .bar 0 c (Finset.mem_erase.mpr ⟨(peer_ne c j).symm, Finset.mem_univ _⟩))
    ((Rd_amount m (peer c j) .bar 0 c).trans (by decide)) 0 (due c (j.val + 1))
    ((due_step c (n := j.val) (by have := j.isLt; omega)).trans (congrArg (due c (j.val + 1) + ·) (sTally_bar c j)))) $$ [HO Ht Hp Hr HI1]
  · isplitl [HI1]; · iexact HI1
    isplitl [HO]; · iexact HO
    isplitl [Ht]; · iexact Ht
    isplitl [Hp]
    · iapply (show barPay (peer c j) c ⊢ (Rd m).payload ((peer c j : Thread nD τ), .reg barSem) 0 c from
        Entails.of_eq (Rd_payload m (peer c j) .bar 0 c).symm)
      iexact Hp
    iexact Hr
  iintro HO
  rw [wp_ret]; imodintro
  isplitr; · iexact HR
  isplitr; · iexact HL
  iexists W; iexact HO

end Cert.KernelIdeal.P

end
-- ==== Proof.Lane.lean ====
/- The operations one device makes for one peer: both transfers, their arrival and their completion,
   with what each takes and gives. -/
module

public import proofs.«01_k».proof.Proof.Ops

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Rows and chunks of an array put together -/

theorem ck_row (t : Fin 2) (p : Dev nD) (i : S32x256.Idx) :
    ((ckRect t p).emb i (0 : Fin 2)).val = 256 * t.val + 32 * p.val + (i (0 : Fin 2)).val := by
  unfold ckRect
  rw [Rect.emb_apply]
  show 256 * t.val + 32 * p.val + 1 * _ = _
  rw [Nat.one_mul]
theorem ck_col (t : Fin 2) (p : Dev nD) (i : S32x256.Idx) :
    ((ckRect t p).emb i (1 : Fin 2)).val = (i (1 : Fin 2)).val := by
  unfold ckRect
  rw [Rect.emb_apply]
  show 0 + 1 * _ = _
  rw [Nat.one_mul, Nat.zero_add]
theorem row_row (t : Fin 2) (i : S256x256.Idx) :
    ((rowRect t).emb i (0 : Fin 2)).val = 256 * t.val + (i (0 : Fin 2)).val := by
  unfold rowRect
  rw [Rect.emb_apply]
  show 256 * t.val + 1 * _ = _
  rw [Nat.one_mul]
theorem row_col (t : Fin 2) (i : S256x256.Idx) :
    ((rowRect t).emb i (1 : Fin 2)).val = (i (1 : Fin 2)).val := by
  unfold rowRect
  rw [Rect.emb_apply]
  show 0 + 1 * _ = _
  rw [Nat.one_mul, Nat.zero_add]

theorem ckOf_unck (g : Fin 2 → Dev nD → V32 F) (t : Fin 2) (p : Dev nD) : ckOf t p (unck g) = g t p := by
  funext i
  have hi : (i (0 : Fin 2)).val < 32 := (i (0 : Fin 2)).isLt
  have ht := t.isLt; have hp : p.val < 8 := p.isLt
  have h0 := ck_row t p i
  have e1 : tOf ((ckRect t p).emb i) = t := Fin.ext (by unfold tOf; dsimp only; rw [h0]; omega)
  have e2 : pOf ((ckRect t p).emb i) = p := Fin.ext (by unfold pOf; dsimp only; rw [h0]; omega)
  unfold ckOf unck
  rw [e1, e2]
  congr 1
  funext a
  match a with
  | ⟨0, _⟩ => exact Fin.ext (by show ((ckRect t p).emb i (0 : Fin 2)).val % 32 = (i (0 : Fin 2)).val; rw [h0]; omega)
  | ⟨1, _⟩ => exact Fin.ext (ck_col t p i)
theorem rowsOf_unrow (g : Fin 2 → Vec F S256x256 .bf16) (t : Fin 2) : rowsOf t (unrow g) = g t := by
  funext i
  have hi : (i (0 : Fin 2)).val < 256 := (i (0 : Fin 2)).isLt
  have ht := t.isLt
  have h0 := row_row t i
  have e1 : tOf ((rowRect t).emb i) = t := Fin.ext (by unfold tOf; dsimp only; rw [h0]; omega)
  unfold rowsOf unrow
  rw [e1]
  congr 1
  funext a
  match a with
  | ⟨0, _⟩ => exact Fin.ext (by show ((rowRect t).emb i (0 : Fin 2)).val % 256 = (i (0 : Fin 2)).val; rw [h0]; omega)
  | ⟨1, _⟩ => exact Fin.ext (row_col t i)

/-! ## What a transfer writes -/

theorem set_x (t : Fin 2) (p : Dev nD) : (ck xb t p).view.set = cset t p := View.set_slice_whole _ _
theorem set_p (t : Fin 2) (p : Dev nD) : (ck pb t p).view.set = cset t p := View.set_slice_whole _ _
theorem set_r (t : Fin 2) (p : Dev nD) : (ck rb t p).view.set = cset t p := View.set_slice_whole _ _

theorem xOn_ck (c : Dev nD) (t : Fin 2) (p : Dev nD) (q : PosShare TreeShare) (f : Arr F) :
    xOn c (cset t p) q f ⊢ ((ck xb t p).view.loc (c : Thread nD τ) ↦[(ck xb t p).view.set]{q} f) := by rw [set_x]; exact Entails.refl _
theorem pOn_ck (c : Dev nD) (t : Fin 2) (p : Dev nD) (f : Arr F) :
    pOn c (cset t p) f ⊢ ((ck pb t p).view.loc (c : Thread nD τ) ↦[(ck pb t p).view.set]{fullShare} f) := by rw [set_p]; exact Entails.refl _
theorem rOn_ck (c : Dev nD) (t : Fin 2) (p : Dev nD) (f : Arr F) :
    rOn c (cset t p) f ⊢ ((ck rb t p).view.loc (c : Thread nD τ) ↦[(ck rb t p).view.set]{fullShare} f) := by rw [set_r]; exact Entails.refl _

theorem mem_ck {t : Fin 2} {p : Dev nD} {i : S512x256.Idx} (h : i ∈ cset t p) : ∃ j : S32x256.Idx, (ckRect t p).emb j = i := by
  rw [← set_x t p] at h
  unfold View.set at h
  obtain ⟨j, -, hj⟩ := Finset.mem_map.mp h
  exact ⟨j, hj⟩

theorem landed_rp (t t' : Fin 2) (p p' : Dev nD) (g fs fd : Arr F) (h : ckOf t p g = ckOf t' p' fs) (i : S512x256.Idx) (hi : i ∈ cset t p) :
    (ck rb t p).view.write (Elt F) fd ((ck pb t' p').view.read (Elt F) fs) Finset.univ i = g i := by
  obtain ⟨j, rfl⟩ := mem_ck hi
  refine (View.write_emb_of_mem (v := (ck rb t p).view) _ _ (Finset.mem_univ j)).trans ?_
  exact (congrFun h j).symm
theorem landed_xx (t : Fin 2) (p : Dev nD) (fs fd : Arr F) (i : S512x256.Idx) (hi : i ∈ cset t p) :
    (ck xb t p).view.write (Elt F) fd ((ck xb t p).view.read (Elt F) fs) Finset.univ i = fs i := by
  obtain ⟨j, rfl⟩ := mem_ck hi
  exact View.write_emb_of_mem (v := (ck xb t p).view) _ _ (Finset.mem_univ j)

/-! ## The sends -/

theorem we_ck (a : Memref sig .tc .vmem S512x256 .bf16) (h : a.IsWhole) (t : Fin 2) (p : Dev nD) : (ck a t p).view.WordExact := by
  rw [← chM_eq a p t]; exact weM a h p t

theorem enq_congr (s : Dev nD) {src src' dst dst' : Memref sig .tc .vmem S32x256 .bf16} {sS sS' sR sR' : DmaSem sig}
    {hsc : (dst : Memref sig (Dev.tc s : Thread nD τ).2.kind .vmem S32x256 .bf16).view.ref.isScScratch = false}
    {hsc' : (dst' : Memref sig (Dev.tc s : Thread nD τ).2.kind .vmem S32x256 .bf16).view.ref.isScScratch = false}
    {hsrc : src.view.WordExact} {hsrc' : src'.view.WordExact} {hdst : dst.view.WordExact} {hdst' : dst'.view.WordExact}
    {hsem : DmaTarget.Typed .vmem (.dma sR) (.remote (Dev.tc s : Thread nD τ) dst (.dma sS) hsc)}
    {hsem' : DmaTarget.Typed .vmem (.dma sR') (.remote (Dev.tc s : Thread nD τ) dst' (.dma sS') hsc')}
    (e1 : src = src') (e2 : dst = dst') (e3 : sS = sS') (e4 : sR = sR') :
    (Prog.lift (.enqueueDma src (.remote (Dev.tc s) dst (.dma sS) hsc) (.dma sR) hsrc hdst hsem) : PG F)
      = Prog.lift (.enqueueDma src' (.remote (Dev.tc s) dst' (.dma sS') hsc') (.dma sR') hsrc' hdst' hsem') := by
  subst e1 e2 e3 e4; rfl

/-- Chunk `(t, s)` of the partial product to device `s`, along with the right to write chunk `(t, s)` of
    this device's rows. -/
def rsPre (c s : Dev nD) (t : Fin 2) (l : ℕ) : sProp 𝕄 :=
  iprop(pOn c (cset t s) (pv m l c) ∗ rAny s t c ∗ xAny c t s
    ∗ dutyTok ER (cell c (.dm 0 t s)) l 0 ∗ reached ER (cell c (.dm 0 t s)) l
    ∗ dutyTok ER (cell s (.dm 1 t c)) l 0 ∗ reached ER (cell s (.dm 1 t c)) l ∗ reached ER (cell c (.dm 3 t s)) l)

theorem rsSend_ok (c : Dev nD) (t : Fin 2) (l : ℕ) (hl : l < 3) (j : Fin 7) :
    iprop(St m c (nRs l t.val + j.val) ∗ rsPre m c (peer c j) t l)
      ⊢ Wp c (rsSend c t j) fun _ => iprop(St m c (nRs l t.val + j.val + 1) ∗ cred (tallyAt (cell c (.dm 0 t (peer c j))) l N)) := by
  have hn : nRs l t.val + j.val < 91 := by have := t.isLt; have := j.isLt; unfold nRs; omega
  unfold rsSend
  rw [enq_congr (peer c j) (sS' := dsem 0 t (peer c j)) (sR' := dsem 1 t c) (hsrc' := we_ck pb (hbf _) t (peer c j)) (hdst' := we_ck rb (hbf _) t c) (hsc' := rfl) (hsem' := ⟨⟨rfl, Or.inl rfl⟩, trivial⟩)
    (chP_eq pb c t j) (chM_eq rb c t) (semP7 c t j) (semM8 c t)]
  unfold rsPre rAny
  iintro ⟨HS, Hp, ⟨%fd, Hr⟩, Hx, Ht1, Hr1, Ht2, Hr2, Hr3⟩
  iapply (send_ok m c (peer c j) (src := ck pb t (peer c j)) (dst := ck rb t c) (q := fullShare) (fs := pv m l c) (fd := fd)
    (Fr := iprop(xAny c t (peer c j) ∗ reached ER (cell c (.dm 3 t (peer c j))) l)) l 0 1 t (peer c j) c rfl rfl hl (peer_ne c j)
    (peer_ne c j).symm hn (sTally_rs c l t j) rfl
    (by rw [set_p]; exact Entails.refl _)
    (by
      rw [set_r]
      refine sep_mono_left (Entails.of_eq (pointsTo_congr fun i hi => ?_))
      exact landed_rp t t c (peer c j) _ _ _ (ckOf_unck _ _ _) i hi)) $$ [HS Hp Hr Hx Ht1 Hr1 Ht2 Hr2 Hr3]
  isplitl [HS]; · iexact HS
  isplitl [Hp]; · iapply (pOn_ck c t (peer c j) (pv m l c)) $$ Hp
  isplitl [Hr Hx Hr3]
  · isplitl [Hr]; · iapply (rOn_ck (peer c j) t c fd) $$ Hr
    isplitl [Hx]; · iexact Hx
    iexact Hr3
  isplitl [Ht1]; · iexact Ht1
  isplitl [Hr1]; · iexact Hr1
  isplitl [Ht2]; · iexact Ht2
  iexact Hr2

/-- The device's own reduced rows to device `s`, along with `s`'s receive slot while it will be needed again. -/
def agPre (c s : Dev nD) (t : Fin 2) (l : ℕ) : sProp 𝕄 :=
  iprop(xOn c (cset t c) (qs s) (xv m l) ∗ xAny s t c ∗ backPay s t c l
    ∗ dutyTok ER (cell c (.dm 2 t s)) l 0 ∗ reached ER (cell c (.dm 2 t s)) l
    ∗ dutyTok ER (cell s (.dm 3 t c)) l 0 ∗ reached ER (cell s (.dm 3 t c)) l)

theorem agSend_ok (c : Dev nD) (t : Fin 2) (l : ℕ) (hl : l < 3) (j : Fin 7) :
    iprop(St m c (nAg l t.val + j.val) ∗ agPre m c (peer c j) t l)
      ⊢ Wp c (agSend c t j) fun _ => iprop(St m c (nAg l t.val + j.val + 1) ∗ cred (tallyAt (cell c (.dm 2 t (peer c j))) l N)) := by
  have hn : nAg l t.val + j.val < 91 := by have := t.isLt; have := j.isLt; unfold nAg; omega
  unfold agSend
  rw [enq_congr (peer c j) (sS' := dsem 2 t (peer c j)) (sR' := dsem 3 t c) (hsrc' := we_ck xb (hbf _) t c) (hdst' := we_ck xb (hbf _) t c) (hsc' := rfl) (hsem' := ⟨⟨rfl, Or.inl rfl⟩, trivial⟩)
    (chM_eq xb c t) (chM_eq xb c t) (semP9 c t j) (semM10 c t)]
  unfold agPre xAny
  iintro ⟨HS, Hx, ⟨%fd, Hd⟩, Hb, Ht1, Hr1, Ht2, Hr2⟩
  iapply (send_ok m c (peer c j) (src := ck xb t c) (dst := ck xb t c) (q := qs (peer c j)) (fs := xv m l) (fd := fd)
    (Fr := backPay (peer c j) t c l) l 2 3 t (peer c j) c rfl rfl hl (peer_ne c j)
    (peer_ne c j).symm hn (sTally_ag c l t j) rfl
    (by rw [set_x]; exact Entails.refl _)
    (by
      rw [set_x]
      refine sep_mono_left (Entails.of_eq (pointsTo_congr fun i hi => ?_))
      exact landed_xx t c _ _ i hi)) $$ [HS Hx Hd Hb Ht1 Hr1 Ht2 Hr2]
  isplitl [HS]; · iexact HS
  isplitl [Hx]; · iapply (xOn_ck c t c (qs (peer c j)) (xv m l)) $$ Hx
  isplitl [Hd Hb]
  · isplitl [Hd]; · iapply (xOn_ck (peer c j) t c fullShare fd) $$ Hd
    iexact Hb
  isplitl [Ht1]; · iexact Ht1
  isplitl [Hr1]; · iexact Hr1
  isplitl [Ht2]; · iexact Ht2
  iexact Hr2

/-! ## The waits -/

/-- The credit and the position a wait of round `l` takes; the position and the mark it leaves. -/
def wPre (c : Dev nD) (k : Cell) (l : ℕ) : sProp 𝕄 := iprop(cred (tallyAt (cell c k) l (amt k)) ∗ atPos ER (cell c k) l ∅ 0)
def wPost (c : Dev nD) (k : Cell) (l : ℕ) : sProp 𝕄 := iprop(atPos ER (cell c k) (l + 1) ∅ 0 ∗ reached ER (cell c k) (l + 1))

theorem waitRound_ok (c : Dev nD) {sp sp' : Space} {s s' : Shape} {e e' : EltTy} {κ' : Kind} {sm : DmaSem sig} {src : Memref sig .tc sp' s' e'} {dst : Memref sig κ' sp s e}
    {hsrc : src.view.WordExact} {hdst : dst.view.WordExact} (k : Cell) (n l : ℕ)
    (hs : (.dma sm : SemLoc sig) = k.sem) (hd : duties c k l = {0}) (ha : dst.view.dmaCredit = amt k) (hl : l < 3)
    (h : ∀ i, n ≤ i → i < 91 → lvK k l < lvS i) :
    iprop(St m c n ∗ wPre c k l)
      ⊢ Wp c (Prog.lift (.waitDma2 sm src dst hsrc hdst)) fun _ => iprop(St m c n ∗ wPost c k l ∗ pay m c k l 0) := by
  unfold wPre wPost
  refine (waitDma_ok m c k l n l hs hd ha hl h).trans (wp_mono _ _ _ fun _ => ?_)
  iintro ⟨HS, H1, H2, H3⟩
  isplitl [HS]; · iexact HS
  isplitl [H1 H2]; · isplitl [H1] <;> iassumption
  iexact H3

theorem rsWait_ok (c : Dev nD) (t : Fin 2) (l n : ℕ) (hl : l < 3) (hn : ∀ i, n ≤ i → i < 91 → 2 * l + 1 < lvS i) (j : Fin 7) :
    iprop(St m c n ∗ wPre c (.dm 1 t (peer c j)) l)
      ⊢ Wp c (rsWait c t j) fun _ => iprop(St m c n ∗ wPost c (.dm 1 t (peer c j)) l ∗ rsPay m c t (peer c j) l) := by
  unfold rsWait
  exact waitRound_ok m c (.dm 1 t (peer c j)) n l (congrArg SemLoc.dma (semP8 c t j)) (duties_dm c _ _ _ l hl (peer_ne c j)) (by rfl) hl hn

theorem agWait_ok (c : Dev nD) (t : Fin 2) (l n : ℕ) (hl : l < 3) (hn : ∀ i, n ≤ i → i < 91 → 2 * l + 2 < lvS i) (j : Fin 7) :
    iprop(St m c n ∗ wPre c (.dm 3 t (peer c j)) l)
      ⊢ Wp c (agWait c t j) fun _ => iprop(St m c n ∗ wPost c (.dm 3 t (peer c j)) l ∗ agPay m c t (peer c j) l) := by
  unfold agWait
  exact waitRound_ok m c (.dm 3 t (peer c j)) n l (congrArg SemLoc.dma (semP10 c t j)) (duties_dm c _ _ _ l hl (peer_ne c j)) (by rfl) hl hn

theorem rsSent_ok (c : Dev nD) (t : Fin 2) (l n : ℕ) (hl : l < 3) (hn : ∀ i, n ≤ i → i < 91 → 0 < lvS i) (j : Fin 7) :
    iprop(St m c n ∗ wPre c (.dm 0 t (peer c j)) l)
      ⊢ Wp c (rsSent c t j) fun _ => iprop(St m c n ∗ wPost c (.dm 0 t (peer c j)) l ∗ pOn c (cset t (peer c j)) (pv m l c)) := by
  unfold rsSent
  exact waitRound_ok m c (.dm 0 t (peer c j)) n l (congrArg SemLoc.dma (semP7 c t j)) (duties_dm c _ _ _ l hl (peer_ne c j)) (by rfl) hl hn

theorem agSent_ok (c : Dev nD) (t : Fin 2) (l n : ℕ) (hl : l < 3) (hn : ∀ i, n ≤ i → i < 91 → 0 < lvS i) (j : Fin 7) :
    iprop(St m c n ∗ wPre c (.dm 2 t (peer c j)) l)
      ⊢ Wp c (agSent c t j) fun _ => iprop(St m c n ∗ wPost c (.dm 2 t (peer c j)) l ∗ xOn c (cset t c) (qs (peer c j)) (xv m l)) := by
  unfold agSent
  exact waitRound_ok m c (.dm 2 t (peer c j)) n l (congrArg SemLoc.dma (semP9 c t j)) (duties_dm c _ _ _ l hl (peer_ne c j)) (by rfl) hl hn

end Cert.KernelIdeal.P

end
-- ==== Proof.Comp.lean ====
/- The computing operations: a layer's partial product of a stream, the reduction of a chunk, the
   final widening, with the buffers each reads and the contents it leaves. -/
module

public import proofs.«01_k».proof.Proof.Lane

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The input copy; a layer's weight slots. -/
def iOn (c : Dev nD) : sProp 𝕄 := ((c : Thread nD τ).loc cc0_scratch3) ↦{fullShare} (xArg m c)
def wiOn (c : Dev nD) (l : Fin 3) : sProp 𝕄 := ((c : Thread nD τ).loc cc0_scratch4) ↦[(wiRect l).set]{fullShare} (winAll m c)
def woOn (c : Dev nD) (l : Fin 3) : sProp 𝕄 := ((c : Thread nD τ).loc cc0_scratch5) ↦[(woRect l).set]{fullShare} (woutAll m c)

/-! ## What a store leaves -/

theorem stored_p (t : Fin 2) (f g : Arr F) (w : Vec F S256x256 .bf16) (h : rowsOf t g = w) (i : S512x256.Idx) (hi : i ∈ rset t) :
    (pb.access (rowRect t)).write (Elt F) f w Finset.univ i = g i := by
  subst h
  have hs : (pb.access (rowRect t)).set = rset t := View.set_slice_whole _ _
  rw [← hs] at hi
  unfold View.set at hi
  obtain ⟨j, -, rfl⟩ := Finset.mem_map.mp hi
  exact View.write_emb_of_mem (v := pb.access (rowRect t)) _ _ (Finset.mem_univ j)

theorem stored_x (t : Fin 2) (p : Dev nD) (f g : Arr F) (w : V32 F) (h : ckOf t p g = w) (i : S512x256.Idx) (hi : i ∈ cset t p) :
    (xb.access (ckRect t p)).write (Elt F) f w Finset.univ i = g i := by
  subst h
  have hs : (xb.access (ckRect t p)).set = cset t p := View.set_slice_whole _ _
  rw [← hs] at hi
  unfold View.set at hi
  obtain ⟨j, -, rfl⟩ := Finset.mem_map.mp hi
  exact View.write_emb_of_mem (v := xb.access (ckRect t p)) _ _ (Finset.mem_univ j)

/-! ## A partial product -/

theorem pv_rows0 (c : Dev nD) (t : Fin 2) :
    rowsOf t (pv m 0 c) = k0_pay1 (rowsOf t (xArg m c)) (winVec m c 0) (woutVec m c 0) := by
  show rowsOf t (part0 m c) = _
  unfold part0; rw [rowsOf_unrow]
theorem pv_rows (c : Dev nD) (t : Fin 2) (l : ℕ) (k : Fin 3) (hk : Fin.ofNat 3 (l + 1) = k) :
    rowsOf t (pv m (l + 1) c) = k0_pay7 (rowsOf t (xv m l)) (winVec m c k) (woutVec m c k) := by
  subst hk
  show rowsOf t (part m _ (xv m l) c) = _
  unfold part; rw [rowsOf_unrow]

theorem comp0_ok (c : Dev nD) (t : Fin 2) (f : Arr F) :
    iprop(iOn m c ∗ wiOn m c 0 ∗ woOn m c 0 ∗ pOn c (rset t) f)
      ⊢ Wp c (comp0 t) fun _ => iprop(iOn m c ∗ wiOn m c 0 ∗ woOn m c 0 ∗ pOn c (rset t) (pv m 0 c)) := by
  unfold comp0
  simp only [Prog.lift, Prog.bind_op, Prog.bind_ret, Prog.pure_eq_ret]
  unfold iOn wiOn woOn pOn
  iintro ⟨Hx, Hi, Ho, Hp⟩
  iapply (wp_load_rect 𝒱₀ (c : Thread nD τ) none Set.univ (m := xin) (r := rowRect t) (Finset.subset_univ _)) $$ Hx; iintro Hx
  iapply (wp_load_rect 𝒱₀ (c : Thread nD τ) none Set.univ (m := wiv) (r := wiRect 0) (by rw [View.set_slice_whole])) $$ Hi; iintro Hi
  iapply (wp_load_rect 𝒱₀ (c : Thread nD τ) none Set.univ (m := wov) (r := woRect 0) (by rw [View.set_slice_whole])) $$ Ho; iintro Ho
  iapply (wp_load_rect 𝒱₀ (c : Thread nD τ) none Set.univ (m := pb) (r := rowRect t) (by rw [View.set_slice_whole]; exact Finset.Subset.refl _)) $$ Hp; iintro Hp
  iapply (wp_store 𝒱₀ (c : Thread nD τ) none Set.univ (m := pb) (r := rowRect t) (Mk := Finset.univ) (by rw [View.setOn_univ, View.set_slice_whole]; exact Finset.Subset.refl _)) $$ Hp; iintro Hp
  rw [wp_ret]; imodintro
  isplitl [Hx]; · iexact Hx
  isplitl [Hi]; · iexact Hi
  isplitl [Ho]; · iexact Ho
  iapply (Entails.of_eq (pointsTo_congr fun i hi => stored_p t f (pv m 0 c) _ (pv_rows0 m c t) i hi)) $$ Hp

theorem comp_ok (c : Dev nD) (t : Fin 2) (l : ℕ) (k : Fin 3) (hk : Fin.ofNat 3 (l + 1) = k) (q : PosShare TreeShare) (f : Arr F) :
    iprop(xOn c (rset t) q (xv m l) ∗ wiOn m c k ∗ woOn m c k ∗ pOn c (rset t) f)
      ⊢ Wp c (comp k t) fun _ => iprop(xOn c (rset t) q (xv m l) ∗ wiOn m c k ∗ woOn m c k ∗ pOn c (rset t) (pv m (l + 1) c)) := by
  unfold comp
  simp only [Prog.lift, Prog.bind_op, Prog.bind_ret, Prog.pure_eq_ret]
  unfold xOn wiOn woOn pOn
  iintro ⟨Hx, Hi, Ho, Hp⟩
  iapply (wp_load_rect 𝒱₀ (c : Thread nD τ) none Set.univ (m := xb) (r := rowRect t) (by rw [View.set_slice_whole]; exact Finset.Subset.refl _)) $$ Hx; iintro Hx
  iapply (wp_load_rect 𝒱₀ (c : Thread nD τ) none Set.univ (m := wiv) (r := wiRect k) (by rw [View.set_slice_whole])) $$ Hi; iintro Hi
  iapply (wp_load_rect 𝒱₀ (c : Thread nD τ) none Set.univ (m := wov) (r := woRect k) (by rw [View.set_slice_whole])) $$ Ho; iintro Ho
  iapply (wp_load_rect 𝒱₀ (c : Thread nD τ) none Set.univ (m := pb) (r := rowRect t) (by rw [View.set_slice_whole]; exact Finset.Subset.refl _)) $$ Hp; iintro Hp
  iapply (wp_store 𝒱₀ (c : Thread nD τ) none Set.univ (m := pb) (r := rowRect t) (Mk := Finset.univ) (by rw [View.setOn_univ, View.set_slice_whole]; exact Finset.Subset.refl _)) $$ Hp; iintro Hp
  rw [wp_ret]; imodintro
  isplitl [Hx]; · iexact Hx
  isplitl [Hi]; · iexact Hi
  isplitl [Ho]; · iexact Ho
  iapply (Entails.of_eq (pointsTo_congr fun i hi => stored_p t f (pv m (l + 1) c) _ (pv_rows m c t l k hk) i hi)) $$ Hp

/-! ## The reduction -/

/-- The reduction at the chunk offsets in closed form. -/
def ldR' (c : Dev nD) (t : Fin 2) (j : Fin 7) : Prog (TpuEff nD τ sig (Elt F) Λ₀ .tc) (V32 F) :=
  Prog.lift (.load rb (ckRect t (peer c j)).toLoadRect (View.loadsAt_vmem h_S32x256))
theorem ldR_eq (c : Dev nD) (t : Fin 2) (j : Fin 7) : ldR (F := F) c t j = ldR' c t j := by
  have h : ∀ (o o' : Fin 2 → Nat) (h : ∀ a, o a + S32x256.size a ≤ S512x256.size a) (h' : ∀ a, o' a + S32x256.size a ≤ S512x256.size a), o = o' →
      (Prog.lift (.load rb (Rect.unit (s := S512x256) o S32x256.size h).toLoadRect (View.loadsAt_vmem h_S32x256)) : Prog (TpuEff nD τ sig (Elt F) Λ₀ .tc) (V32 F))
        = Prog.lift (.load rb (Rect.unit (s := S512x256) o' S32x256.size h').toLoadRect (View.loadsAt_vmem h_S32x256)) := by
    intro o o' h h' e; subst e; rfl
  exact h _ _ _ _ (off6_val c t j)

theorem packed_ck (t : Fin 2) (p : Dev nD) : (ckRect t p).PackedRows (EltTy.packing .bf16) := by
  rw [← rectM'_eq p t]; exact k0_off5_packedbf16 p t

/-- The reduction with the own chunk at offset `o`. -/
def redAt (o : Fin 2 → Nat) (h : ∀ a, o a + S32x256.size a ≤ S512x256.size a)
    (hp : (Rect.unit (s := S512x256) o S32x256.size h).PackedRows (EltTy.packing .bf16)) (mid : PG F) (c : Dev nD) (t : Fin 2) : PG F :=
  (Prog.lift (.load pb (Rect.unit (s := S512x256) o S32x256.size h).toLoadRect (View.loadsAt_vmem h_S32x256))).bind fun (o₁ : V32 F) =>
  (ldR' c t 0).bind fun r0 => (ldR' c t 1).bind fun r1 => (ldR' c t 2).bind fun r2 => (ldR' c t 3).bind fun r3 =>
  (ldR' c t 4).bind fun r4 => (ldR' c t 5).bind fun r5 => (ldR' c t 6).bind fun r6 =>
  mid.bind fun _ =>
  (Prog.lift (.load xb (Rect.unit (s := S512x256) o S32x256.size h).toLoadRect (View.loadsAt_vmem h_S32x256))).bind fun (_ : V32 F) =>
  Prog.lift (.store xb (Rect.unit (s := S512x256) o S32x256.size h) (redPay o₁ r0 r1 r2 r3 r4 r5 r6) Finset.univ
    (View.stores_vmem h_S32x256 ((hbf _).storeExact_slice rfl _ hp) (fun _ => rfl)) (.inl rfl))

theorem redAt_congr {o o' : Fin 2 → Nat} {h} {h'} {hp} {hp'} (e : o = o') (mid : PG F) (c : Dev nD) (t : Fin 2) :
    redAt o h hp mid c t = redAt o' h' hp' mid c t := by subst e; rfl

theorem red_eq (mid : PG F) (c : Dev nD) (t : Fin 2) : red mid c t = redAt _ (ck_inb t c) (packed_ck t c) mid c t := by
  refine Eq.trans ?_ (redAt_congr (h := k0_off5_inb c t) (hp := k0_off5_packedbf16 c t) (off5_val c t) mid c t)
  unfold red redAt
  simp only [ldR_eq]
  rfl

theorem ret_ok {c : Dev nD} {α : Type} (a : α) (Q : α → sProp 𝕄) : Q a ⊢ Wp c (.ret a) Q := by
  unfold Wp; rw [wp_ret]; exact fupd_intro

/-- One slot of the receive buffer read. -/
theorem ldR_ok (c : Dev nD) (t : Fin 2) (j : Fin 7) (l : ℕ) :
    rOn c (cset t (peer c j)) (rv m l c)
      ⊢ Wp c (ldR' c t j) fun r => iprop(⌜r = ckOf t c (pv m l (peer c j))⌝ ∗ rOn c (cset t (peer c j)) (rv m l c)) := by
  unfold ldR' rOn Prog.lift
  iintro Hr
  iapply (wp_load_rect 𝒱₀ (c : Thread nD τ) none Set.univ (m := rb) (r := ckRect t (peer c j)) (by rw [View.set_slice_whole]; exact Finset.Subset.refl _)) $$ Hr; iintro Hr
  iapply (ret_ok (α := V32 F) _ _)
  isplitr
  · ipureintro; exact ckOf_unck (fun t s => ckOf t c (pv m l s)) t (peer c j)
  iexact Hr

theorem xv_ck (c : Dev nD) (t : Fin 2) (l : ℕ) :
    ckOf t c (xv m l) = redPay (ckOf t c (pv m l c)) (ckOf t c (pv m l (peer c 0))) (ckOf t c (pv m l (peer c 1))) (ckOf t c (pv m l (peer c 2)))
      (ckOf t c (pv m l (peer c 3))) (ckOf t c (pv m l (peer c 4))) (ckOf t c (pv m l (peer c 5))) (ckOf t c (pv m l (peer c 6))) := by
  unfold xv reduced; rw [ckOf_unck]

theorem ldP_ok (c : Dev nD) (t : Fin 2) (f : Arr F) :
    pOn c (cset t c) f
      ⊢ Wp c (Prog.lift (.load pb (Rect.unit (s := S512x256) ![256 * t.val + 32 * c.val, 0] S32x256.size (ck_inb t c)).toLoadRect (View.loadsAt_vmem h_S32x256)))
          fun (r : V32 F) => iprop(⌜r = ckOf t c f⌝ ∗ pOn c (cset t c) f) := by
  unfold pOn Prog.lift
  iintro Hr
  iapply (wp_load_rect 𝒱₀ (c : Thread nD τ) none Set.univ (m := pb) (r := ckRect t c) (by rw [View.set_slice_whole]; exact Finset.Subset.refl _)) $$ Hr; iintro Hr
  iapply (ret_ok (α := V32 F) _ _)
  isplitr
  · ipureintro; rfl
  iexact Hr
theorem ldX_ok (c : Dev nD) (t : Fin 2) (f : Arr F) :
    xOn c (cset t c) fullShare f
      ⊢ Wp c (Prog.lift (.load xb (Rect.unit (s := S512x256) ![256 * t.val + 32 * c.val, 0] S32x256.size (ck_inb t c)).toLoadRect (View.loadsAt_vmem h_S32x256)))
          fun (r : V32 F) => xOn c (cset t c) fullShare f := by
  unfold xOn Prog.lift
  iintro Hr
  iapply (wp_load_rect 𝒱₀ (c : Thread nD τ) none Set.univ (m := xb) (r := ckRect t c) (by rw [View.set_slice_whole]; exact Finset.Subset.refl _)) $$ Hr; iintro Hr
  iapply (ret_ok (α := V32 F) _ _)
  iexact Hr

theorem red_ok (c : Dev nD) (t : Fin 2) (l : ℕ) (mid : PG F) (P Q : sProp 𝕄) (hmid : P ⊢ Wp c mid fun _ => iprop(Q ∗ xAny c t c)) :
    iprop(pOn c (cset t c) (pv m l c) ∗ (bigSep Finset.univ fun j : Fin 7 => rOn c (cset t (peer c j)) (rv m l c)) ∗ P)
      ⊢ Wp c (red mid c t) fun _ => iprop(pOn c (cset t c) (pv m l c) ∗ (bigSep Finset.univ fun j : Fin 7 => rOn c (cset t (peer c j)) (rv m l c)) ∗ Q
          ∗ xOn c (cset t c) fullShare (xv m l)) := by
  rw [red_eq, bigSep7]
  unfold redAt
  iintro ⟨Hp, ⟨H0, H1, H2, H3, H4, H5, H6⟩, HP⟩
  iapply (wp_step (ldP_ok c t (pv m l c))) $$ Hp; iintro %o ⟨%ho, Hp⟩
  iapply (wp_step (ldR_ok m c t 0 l)) $$ H0; iintro %r0 ⟨%h0, H0⟩
  iapply (wp_step (ldR_ok m c t 1 l)) $$ H1; iintro %r1 ⟨%h1, H1⟩
  iapply (wp_step (ldR_ok m c t 2 l)) $$ H2; iintro %r2 ⟨%h2, H2⟩
  iapply (wp_step (ldR_ok m c t 3 l)) $$ H3; iintro %r3 ⟨%h3, H3⟩
  iapply (wp_step (ldR_ok m c t 4 l)) $$ H4; iintro %r4 ⟨%h4, H4⟩
  iapply (wp_step (ldR_ok m c t 5 l)) $$ H5; iintro %r5 ⟨%h5, H5⟩
  iapply (wp_step (ldR_ok m c t 6 l)) $$ H6; iintro %r6 ⟨%h6, H6⟩
  subst ho h0 h1 h2 h3 h4 h5 h6
  iapply (wp_step hmid) $$ HP; iintro %u ⟨HQ, Hx⟩
  unfold xAny
  icases Hx with ⟨%f, Hx⟩
  iapply (wp_step (ldX_ok c t f)) $$ Hx; iintro %v Hx
  unfold xOn Prog.lift
  iapply (wp_store 𝒱₀ (c : Thread nD τ) none Set.univ (m := xb) (r := Rect.unit (s := S512x256) ![256 * t.val + 32 * c.val, 0] S32x256.size (ck_inb t c)) (Mk := Finset.univ) (by rw [View.setOn_univ, View.set_slice_whole]; exact Finset.Subset.refl _)) $$ Hx; iintro Hx
  rw [wp_ret]; imodintro
  isplitl [Hp]; · iexact Hp
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [HQ]; · iexact HQ
  iapply (Entails.of_eq (pointsTo_congr fun i hi => stored_x t c f (xv m l) _ (xv_ck m c t l) i hi)) $$ Hx

/-! ## The widening -/

theorem z2 : (![0, 0] : Fin 2 → Nat) = fun _ => 0 := funext fun a => by fin_cases a <;> rfl

theorem widen_ok (c : Dev nD) (q : PosShare TreeShare) :
    iprop(xOn c Finset.univ q (xv m 2) ∗ (∃ f, ((c : Thread nD τ).loc cc0_scratch6) ↦{fullShare} f))
      ⊢ Wp c widen fun _ => iprop(xOn c Finset.univ q (xv m 2) ∗ ((c : Thread nD τ).loc cc0_scratch6) ↦{fullShare} (yv m)) := by
  unfold widen
  simp only [Prog.lift, Prog.bind_op, Prog.bind_ret, Prog.pure_eq_ret]
  unfold xOn
  iintro ⟨Hx, ⟨%f, Ho⟩⟩
  iapply (wp_load 𝒱₀ (c : Thread nD τ) none Set.univ (m := xb) (Finset.subset_univ _)) $$ Hx; iintro Hx
  rw [show xb.view.readAt (Elt F) full.toLoadRect (xv m 2) = xv m 2 from Memref.readAt_unit_zero (Elt F) cc0_scratch0 z2 _ _]
  iapply (wp_load 𝒱₀ (c : Thread nD τ) none Set.univ (m := ob) (Finset.subset_univ _)) $$ Ho; iintro Ho
  iapply (wp_store 𝒱₀ (c : Thread nD τ) none Set.univ (m := ob) (r := full) (Mk := Finset.univ) (Finset.subset_univ _)) $$ Ho; iintro Ho
  rw [show (ob.access full).write (Elt F) f (k0_pay25 (xv m 2)) Finset.univ = yv m from Memref.write_access_unit_zero_univ (Elt F) cc0_scratch6 z2 _ f _, wp_ret]
  imodintro
  isplitl [Hx]; · iexact Hx
  iexact Ho

end Cert.KernelIdeal.P

end
-- ==== Proof.Phases.lean ====
/- One row stream of one layer: the products and their sending, then the reduction and the sending of
   the reduced rows, each from what the layer before left. -/
module

public import proofs.«01_k».proof.Proof.Comp

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Over the peers of a device -/

/-- For every peer. -/
def ps (c : Dev nD) (A : Dev nD → sProp 𝕄) : sProp 𝕄 := bigSep Finset.univ fun j : Fin 7 => A (peer c j)

theorem ps_sep (c : Dev nD) (A B : Dev nD → sProp 𝕄) : ps c (fun s => iprop(A s ∗ B s)) = iprop(ps c A ∗ ps c B) :=
  bigSep_sep' _ _ _
theorem ps_mono (c : Dev nD) {A B : Dev nD → sProp 𝕄} (h : ∀ s, s ≠ c → A s ⊢ B s) : ps c A ⊢ ps c B :=
  bigSep_mono fun j _ => h _ (peer_ne c j)
theorem ps_dev (c : Dev nD) (A : Dev nD → sProp 𝕄) : bigSep Finset.univ A = iprop(A c ∗ ps c A) := bigSep_dev c A

/-- An operation for each peer, what is held throughout going with it. -/
theorem peers_n {c : Dev nD} {f : Fin 7 → PG F} (n : ℕ) (A B : Dev nD → sProp 𝕄)
    (h : ∀ j : Fin 7, iprop(St m c (n + j.val) ∗ A (peer c j)) ⊢ Wp c (f j) fun _ => iprop(St m c (n + j.val + 1) ∗ B (peer c j))) :
    iprop(St m c n ∗ ps c A) ⊢ Wp c (overPeers f) fun _ => iprop(St m c (n + 7) ∗ ps c B) :=
  peers (fun k => St m c (n + k)) h
theorem peers_0 {c : Dev nD} {f : Fin 7 → PG F} (n : ℕ) (A B : Dev nD → sProp 𝕄)
    (h : ∀ j : Fin 7, iprop(St m c n ∗ A (peer c j)) ⊢ Wp c (f j) fun _ => iprop(St m c n ∗ B (peer c j))) :
    iprop(St m c n ∗ ps c A) ⊢ Wp c (overPeers f) fun _ => iprop(St m c n ∗ ps c B) :=
  peers (fun _ => St m c n) h

theorem St_known (c : Dev nD) (n : ℕ) (d : Dev nD) (k : Cell) : St m c n ⊢ iprop(St m c n ∗ reached ER (cell d k) 0) := by
  unfold St
  iintro ⟨#HR, #HL, HW⟩
  ihave HK := (records_get m d k) $$ HR
  unfold known
  icases HK with ⟨-, #Hr⟩
  isplitl [HW]
  · isplitr; · iexact HR
    isplitr; · iexact HL
    iexact HW
  iexact Hr

/-! ## Rows and chunks, shares -/

theorem cset_disj' (t : Fin 2) : ∀ p ∈ (Finset.univ : Finset (Dev nD)), ∀ p' ∈ (Finset.univ : Finset (Dev nD)), p ≠ p' → Disjoint (cset t p) (cset t p') :=
  fun p _ p' _ h => cset_disj t t p p' fun e => h (congrArg Prod.snd e)
theorem rset_disj : Disjoint (rset 0) (rset 1) := by
  rw [Finset.disjoint_left]
  intro i h0 h1
  have e0 := mem_rset_iff.mp h0; have e1 := mem_rset_iff.mp h1
  rw [← e0] at e1; exact absurd e1 (by decide)
theorem rset_union : rset 0 ∪ rset 1 = Finset.univ := by
  ext i
  simp only [Finset.mem_union, mem_rset_iff, Finset.mem_univ, iff_true]
  have := (tOf i).isLt
  rcases Nat.lt_or_ge (tOf i).val 1 with h | h
  · left; exact Fin.ext (by show 0 = _; omega)
  · right; exact Fin.ext (by show 1 = _; omega)

theorem xOn_rows (c : Dev nD) (t : Fin 2) (q : PosShare TreeShare) (f : Arr F) :
    xOn c (rset t) q f = iprop(xOn c (cset t c) q f ∗ ps c fun s => xOn c (cset t s) q f) := by
  rw [← ps_dev c (fun s => xOn c (cset t s) q f), ← cset_cover t]
  exact pointsTo_biUnion _ _ (cset_disj' t)
theorem pOn_rows (c : Dev nD) (t : Fin 2) (f : Arr F) :
    pOn c (rset t) f = iprop(pOn c (cset t c) f ∗ ps c fun s => pOn c (cset t s) f) := by
  rw [← ps_dev c (fun s => pOn c (cset t s) f), ← cset_cover t]
  exact pointsTo_biUnion _ _ (cset_disj' t)
theorem rOn_rows (c : Dev nD) (t : Fin 2) (f : Arr F) :
    rOn c (rset t) f = iprop(rOn c (cset t c) f ∗ ps c fun s => rOn c (cset t s) f) := by
  rw [← ps_dev c (fun s => rOn c (cset t s) f), ← cset_cover t]
  exact pointsTo_biUnion _ _ (cset_disj' t)
theorem xOn_univ (c : Dev nD) (q : PosShare TreeShare) (f : Arr F) :
    xOn c Finset.univ q f ⊣⊢ iprop(xOn c (rset 0) q f ∗ xOn c (rset 1) q f) := by
  rw [← rset_union]; exact pointsTo_union rset_disj
theorem pOn_univ (c : Dev nD) (f : Arr F) : pOn c Finset.univ f ⊣⊢ iprop(pOn c (rset 0) f ∗ pOn c (rset 1) f) := by
  rw [← rset_union]; exact pointsTo_union rset_disj
theorem rOn_univ (c : Dev nD) (f : Arr F) : rOn c Finset.univ f ⊣⊢ iprop(rOn c (rset 0) f ∗ rOn c (rset 1) f) := by
  rw [← rset_union]; exact pointsTo_union rset_disj

/-- What is left of a full share once the kept one is set apart: the eight tokens. -/
def xToks (c : Dev nD) (S : Finset S512x256.Idx) (f : Arr F) : sProp 𝕄 := bigSep Finset.univ fun p : Dev nD => xOn c S (qs p) f
theorem xOn_split (c : Dev nD) (S : Finset S512x256.Idx) (f : Arr F) : xOn c S fullShare f ⊣⊢ iprop(xOn c S qk f ∗ xToks c S f) :=
  Transfers.pointsTo_toks fullShare 8

/-- What a device keeps of its own chunk while the transfers of it are under way. -/
def xKept (c : Dev nD) (t : Fin 2) (l : ℕ) : sProp 𝕄 := iprop(xOn c (cset t c) qk (xv m l) ∗ xOn c (cset t c) (qs c) (xv m l))

theorem xOn_lend (c : Dev nD) (t : Fin 2) (l : ℕ) :
    xOn c (cset t c) fullShare (xv m l) ⊣⊢ iprop(xKept m c t l ∗ ps c fun s => xOn c (cset t c) (qs s) (xv m l)) := by
  unfold xKept
  have h := xOn_split c (cset t c) (xv m l)
  unfold xToks at h
  rw [ps_dev c] at h
  constructor
  · refine h.1.trans ?_
    iintro ⟨H1, H2, H3⟩
    isplitr [H3]; · isplitl [H1] <;> iassumption
    iexact H3
  · refine BIBase.Entails.trans ?_ h.2
    iintro ⟨⟨H1, H2⟩, H3⟩
    isplitl [H1]; · iexact H1
    isplitl [H2] <;> iassumption

/-! ## Tokens -/

def tokRs (c : Dev nD) (t : Fin 2) (l : ℕ) (s : Dev nD) : sProp 𝕄 :=
  iprop(dutyTok ER (cell c (.dm 0 t s)) l 0 ∗ dutyTok ER (cell s (.dm 1 t c)) l 0)
def tokAg (c : Dev nD) (t : Fin 2) (l : ℕ) (s : Dev nD) : sProp 𝕄 :=
  iprop(dutyTok ER (cell c (.dm 2 t s)) l 0 ∗ dutyTok ER (cell s (.dm 3 t c)) l 0)
/-- The slot a device does not give back after the last layer. -/
def keepR (c : Dev nD) (t : Fin 2) (l : ℕ) (s : Dev nD) : sProp 𝕄 := if l < 2 then iprop(emp) else rOn c (cset t s) (rv m l c)

/-! ## The sends from what is at hand -/

theorem rsSend_first (c : Dev nD) (t : Fin 2) (j : Fin 7) :
    iprop(St m c (nRs 0 t.val + j.val) ∗ (pOn c (cset t (peer c j)) (pv m 0 c) ∗ rAny (peer c j) t c ∗ xAny c t (peer c j) ∗ tokRs c t 0 (peer c j)))
      ⊢ Wp c (rsSend c t j) fun _ => iprop(St m c (nRs 0 t.val + j.val + 1) ∗ cred (tallyAt (cell c (.dm 0 t (peer c j))) 0 N)) := by
  refine BIBase.Entails.trans ?_ (rsSend_ok m c t 0 (by decide) j)
  unfold rsPre tokRs
  iintro ⟨HS, Hp, Hr, Hx, Ht1, Ht2⟩
  ihave HS := (St_known m c _ c (.dm 0 t (peer c j))) $$ HS
  icases HS with ⟨HS, K1⟩
  ihave HS := (St_known m c _ (peer c j) (.dm 1 t c)) $$ HS
  icases HS with ⟨HS, K2⟩
  ihave HS := (St_known m c _ c (.dm 3 t (peer c j))) $$ HS
  icases HS with ⟨HS, K3⟩
  isplitl [HS]; · iexact HS
  isplitl [Hp]; · iexact Hp
  isplitl [Hr]; · iexact Hr
  isplitl [Hx]; · iexact Hx
  isplitl [Ht1]; · iexact Ht1
  isplitl [K1]; · iexact K1
  isplitl [Ht2]; · iexact Ht2
  isplitl [K2]; · iexact K2
  iexact K3

theorem rsSend_later (c : Dev nD) (t : Fin 2) (l : ℕ) (hl : l < 2) (j : Fin 7) :
    iprop(St m c (nRs (l + 1) t.val + j.val) ∗ (pOn c (cset t (peer c j)) (pv m (l + 1) c) ∗ xAny c t (peer c j) ∗ backPay c t (peer c j) l
        ∗ reached ER (cell c (.dm 3 t (peer c j))) (l + 1) ∗ reached ER (cell c (.dm 0 t (peer c j))) (l + 1) ∗ tokRs c t (l + 1) (peer c j)))
      ⊢ Wp c (rsSend c t j) fun _ => iprop(St m c (nRs (l + 1) t.val + j.val + 1) ∗ cred (tallyAt (cell c (.dm 0 t (peer c j))) (l + 1) N)) := by
  refine BIBase.Entails.trans ?_ (rsSend_ok m c t (l + 1) (by omega) j)
  unfold rsPre tokRs backPay
  rw [if_pos hl]
  iintro ⟨HS, Hp, Hx, ⟨Hr, K2⟩, K3, K1, Ht1, Ht2⟩
  isplitl [HS]; · iexact HS
  isplitl [Hp]; · iexact Hp
  isplitl [Hr]; · iexact Hr
  isplitl [Hx]; · iexact Hx
  isplitl [Ht1]; · iexact Ht1
  isplitl [K1]; · iexact K1
  isplitl [Ht2]; · iexact Ht2
  isplitl [K2]; · iexact K2
  iexact K3

theorem agSend_all (c : Dev nD) (t : Fin 2) (l : ℕ) (hl : l < 3) (j : Fin 7) :
    iprop(St m c (nAg l t.val + j.val) ∗ (xOn c (cset t c) (qs (peer c j)) (xv m l) ∗ rOn c (cset t (peer c j)) (rv m l c)
        ∗ xAny (peer c j) t c ∗ reached ER (cell (peer c j) (.dm 3 t c)) l ∗ reached ER (cell c (.dm 1 t (peer c j))) (l + 1)
        ∗ reached ER (cell c (.dm 2 t (peer c j))) l ∗ tokAg c t l (peer c j)))
      ⊢ Wp c (agSend c t j) fun _ => iprop(St m c (nAg l t.val + j.val + 1) ∗ (cred (tallyAt (cell c (.dm 2 t (peer c j))) l N) ∗ keepR m c t l (peer c j))) := by
  have hb : iprop(rOn c (cset t (peer c j)) (rv m l c) ∗ reached ER (cell c (.dm 1 t (peer c j))) (l + 1))
      ⊢ iprop(backPay (peer c j) t c l ∗ keepR m c t l (peer c j)) := by
    unfold backPay keepR
    by_cases h : l < 2
    · rw [if_pos h, if_pos h]
      unfold rAny
      iintro ⟨Hr, K⟩
      isplitl
      · isplitl [Hr]; · iexists _; iexact Hr
        iexact K
      iempintro
    · rw [if_neg h, if_neg h]
      iintro ⟨Hr, K⟩
      isplitr; · iempintro
      iexact Hr
  have h := wp_frame' (R := keepR m c t l (peer c j)) (agSend_ok m c t l hl j)
  refine BIBase.Entails.trans ?_ (h.trans (wp_mono _ _ _ fun _ => ?_))
  · unfold agPre tokAg
    iintro ⟨HS, Hx, Hr, Ha, K1, K2, K3, Ht1, Ht2⟩
    ihave Hb := hb $$ [Hr K2]
    · isplitl [Hr] <;> iassumption
    icases Hb with ⟨Hb, Hk⟩
    isplitr [Hk]
    · isplitl [HS]; · iexact HS
      isplitl [Hx]; · iexact Hx
      isplitl [Ha]; · iexact Ha
      isplitl [Hb]; · iexact Hb
      isplitl [Ht1]; · iexact Ht1
      isplitl [K3]; · iexact K3
      isplitl [Ht2]; · iexact Ht2
      iexact K1
    iexact Hk
  · iintro ⟨⟨HS, Hc⟩, Hk⟩
    isplitl [HS]; · iexact HS
    isplitl [Hc] <;> iassumption

/-! ## Splitting and joining over the peers -/

theorem ps_join (c : Dev nD) (A B : Dev nD → sProp 𝕄) : iprop(ps c A ∗ ps c B) ⊢ ps c (fun s => iprop(A s ∗ B s)) :=
  Entails.of_eq (ps_sep c A B).symm
theorem ps_split (c : Dev nD) (A B : Dev nD → sProp 𝕄) : ps c (fun s => iprop(A s ∗ B s)) ⊢ iprop(ps c A ∗ ps c B) :=
  Entails.of_eq (ps_sep c A B)

abbrev crd (c : Dev nD) (k : Cell) (l : ℕ) : sProp 𝕄 := cred (tallyAt (cell c k) l (amt k))
abbrev pos (c : Dev nD) (k : Cell) (l : ℕ) : sProp 𝕄 := atPos ER (cell c k) l ∅ 0

/-- The received chunks of the peers read together with the own one: the rows at the kept share, the rest set apart. -/
theorem rows_in (c : Dev nD) (t : Fin 2) (l : ℕ) :
    iprop(xKept m c t l ∗ ps c fun s => xOn c (cset t s) fullShare (xv m l))
      ⊢ iprop(xOn c (rset t) qk (xv m l) ∗ xOn c (cset t c) (qs c) (xv m l) ∗ ps c fun s => xToks c (cset t s) (xv m l)) := by
  have h : (ps c fun s => xOn c (cset t s) fullShare (xv m l)) ⊢ iprop((ps c fun s => xOn c (cset t s) qk (xv m l)) ∗ ps c fun s => xToks c (cset t s) (xv m l)) :=
    (ps_mono c fun s _ => (xOn_split c (cset t s) (xv m l)).1).trans (ps_split c _ _)
  unfold xKept
  rw [xOn_rows]
  iintro ⟨⟨H1, H2⟩, H3⟩
  ihave H3 := h $$ H3
  icases H3 with ⟨H3, H4⟩
  isplitl [H1 H3]; · isplitl [H1] <;> iassumption
  isplitl [H2] <;> iassumption

theorem rows_out (c : Dev nD) (t : Fin 2) (l : ℕ) :
    iprop(xOn c (rset t) qk (xv m l) ∗ xOn c (cset t c) (qs c) (xv m l) ∗ ps c fun s => xToks c (cset t s) (xv m l))
      ⊢ iprop(xKept m c t l ∗ ps c fun s => xAny c t s) := by
  have h : iprop((ps c fun s => xOn c (cset t s) qk (xv m l)) ∗ ps c fun s => xToks c (cset t s) (xv m l)) ⊢ ps c fun s => xAny c t s := by
    refine (ps_join c _ _).trans (ps_mono c fun s _ => (xOn_split c (cset t s) (xv m l)).2.trans ?_)
    unfold xAny
    iintro H; iexists _; iexact H
  unfold xKept
  rw [xOn_rows]
  iintro ⟨⟨H1, H3⟩, H2, H4⟩
  isplitl [H1 H2]; · isplitl [H1] <;> iassumption
  iapply h; isplitl [H3] <;> iassumption

/-! ## The products and their sending -/

theorem first0_ok (c : Dev nD) (t : Fin 2) :
    iprop(St m c (nRs 0 t.val) ∗ (iOn m c ∗ wiOn m c 0 ∗ woOn m c 0) ∗ (∃ f, pOn c (rset t) f)
        ∗ ps c (fun s => iprop(rAny s t c ∗ xAny c t s ∗ tokRs c t 0 s)) ∗ ps c (fun s => pos c (.dm 0 t s) 0))
      ⊢ Wp c (first0 c t) fun _ => iprop(St m c (nRs 0 t.val + 7) ∗ (iOn m c ∗ wiOn m c 0 ∗ woOn m c 0) ∗ pOn c (cset t c) (pv m 0 c)
        ∗ ps c (fun s => wPre c (.dm 0 t s) 0)) := by
  unfold first0
  iintro ⟨HS, ⟨Hi, Hw, Ho⟩, ⟨%f, Hp⟩, HA, Hat⟩
  iapply (step (comp0_ok m c t f)) $$ [Hi Hw Ho Hp]
  · isplitl [Hi]; · iexact Hi
    isplitl [Hw]; · iexact Hw
    isplitl [Ho]; · iexact Ho
    iexact Hp
  iintro ⟨Hi, Hw, Ho, Hp⟩
  ihave Hp := (Entails.of_eq (pOn_rows c t (pv m 0 c))) $$ Hp
  icases Hp with ⟨Hp, Hps⟩
  iapply (step (peers_n m (nRs 0 t.val) (fun s => iprop(pOn c (cset t s) (pv m 0 c) ∗ rAny s t c ∗ xAny c t s ∗ tokRs c t 0 s))
    (fun s => crd c (.dm 0 t s) 0) (rsSend_first m c t))) $$ [HS Hps HA]
  · isplitl [HS]; · iexact HS
    iapply (ps_join c _ _); isplitl [Hps] <;> iassumption
  iintro ⟨HS, Hc⟩
  iapply done
  isplitl [HS]; · iexact HS
  isplitl [Hi Hw Ho]
  · isplitl [Hi]; · iexact Hi
    isplitl [Hw] <;> iassumption
  isplitl [Hp]; · iexact Hp
  iapply (ps_join c _ _); isplitl [Hc] <;> iassumption

theorem first_ok (c : Dev nD) (t : Fin 2) (l : ℕ) (hl : l < 2) (k : Fin 3) (hk : Fin.ofNat 3 (l + 1) = k) :
    iprop(St m c (nRs (l + 1) t.val) ∗ (wiOn m c k ∗ woOn m c k) ∗ pOn c (cset t c) (pv m l c) ∗ xKept m c t l
        ∗ ps c (fun s => wPre c (.dm 3 t s) l) ∗ ps c (fun s => wPre c (.dm 0 t s) l) ∗ ps c (fun s => tokRs c t (l + 1) s))
      ⊢ Wp c (first k c t) fun _ => iprop(St m c (nRs (l + 1) t.val + 7) ∗ (wiOn m c k ∗ woOn m c k) ∗ pOn c (cset t c) (pv m (l + 1) c) ∗ xKept m c t l
        ∗ ps c (fun s => wPre c (.dm 0 t s) (l + 1)) ∗ ps c (fun s => pos c (.dm 3 t s) (l + 1))) := by
  have ht := t.isLt
  unfold first
  iintro ⟨HS, ⟨Hw, Ho⟩, Hp, Hx, H3, H0, Ht⟩
  iapply (step (peers_0 m (nRs (l + 1) t.val) (fun s => wPre c (.dm 3 t s) l) (fun s => iprop(wPost c (.dm 3 t s) l ∗ agPay m c t s l))
    (agWait_ok m c t l _ (by omega) (fun i h _ => by unfold nRs at h; unfold lvS; rw [if_neg (by omega)]; omega)))) $$ [HS H3]
  · isplitl [HS] <;> iassumption
  iintro ⟨HS, H3⟩
  iapply (step (peers_0 m (nRs (l + 1) t.val) (fun s => wPre c (.dm 0 t s) l) (fun s => iprop(wPost c (.dm 0 t s) l ∗ pOn c (cset t s) (pv m l c)))
    (rsSent_ok m c t l _ (by omega) (fun i h _ => by unfold nRs at h; unfold lvS; rw [if_neg (by omega)]; omega)))) $$ [HS H0]
  · isplitl [HS] <;> iassumption
  iintro ⟨HS, H0⟩
  ihave H3 := (ps_split c _ _) $$ H3
  icases H3 with ⟨H3, Hag⟩
  unfold agPay
  ihave Hag := (ps_split c _ _) $$ Hag
  icases Hag with ⟨Hxs, Hbk⟩
  ihave H0 := (ps_split c _ _) $$ H0
  icases H0 with ⟨H0, Hps⟩
  ihave Hxx := (rows_in m c t l) $$ [Hx Hxs]
  · isplitl [Hx] <;> iassumption
  icases Hxx with ⟨Hx, Hxc, Hxt⟩
  ihave Hp := (Entails.of_eq (pOn_rows c t (pv m l c)).symm) $$ [Hp Hps]
  · isplitl [Hp] <;> iassumption
  iapply (step (comp_ok m c t l k hk qk (pv m l c))) $$ [Hx Hw Ho Hp]
  · isplitl [Hx]; · iexact Hx
    isplitl [Hw]; · iexact Hw
    isplitl [Ho]; · iexact Ho
    iexact Hp
  iintro ⟨Hx, Hw, Ho, Hp⟩
  ihave Hxx := (rows_out m c t l) $$ [Hx Hxc Hxt]
  · isplitl [Hx]; · iexact Hx
    isplitl [Hxc] <;> iassumption
  icases Hxx with ⟨Hx, Hxs⟩
  ihave Hp := (Entails.of_eq (pOn_rows c t (pv m (l + 1) c))) $$ Hp
  icases Hp with ⟨Hp, Hps⟩
  unfold wPost
  ihave H3 := (ps_split c _ _) $$ H3
  icases H3 with ⟨H3, K3⟩
  ihave H0 := (ps_split c _ _) $$ H0
  icases H0 with ⟨H0, K0⟩
  iapply (step (peers_n m (nRs (l + 1) t.val) (fun s => iprop(pOn c (cset t s) (pv m (l + 1) c) ∗ xAny c t s ∗ backPay c t s l
        ∗ reached ER (cell c (.dm 3 t s)) (l + 1) ∗ reached ER (cell c (.dm 0 t s)) (l + 1) ∗ tokRs c t (l + 1) s))
    (fun s => crd c (.dm 0 t s) (l + 1)) (rsSend_later m c t l hl))) $$ [HS Hps Hxs Hbk K3 K0 Ht]
  · isplitl [HS]; · iexact HS
    iapply (ps_join c _ _); isplitl [Hps]; · iexact Hps
    iapply (ps_join c _ _); isplitl [Hxs]; · iexact Hxs
    iapply (ps_join c _ _); isplitl [Hbk]; · iexact Hbk
    iapply (ps_join c _ _); isplitl [K3]; · iexact K3
    iapply (ps_join c _ _); isplitl [K0]; · iexact K0
    iexact Ht
  iintro ⟨HS, Hc⟩
  iapply done
  isplitl [HS]; · iexact HS
  isplitl [Hw Ho]; · isplitl [Hw] <;> iassumption
  isplitl [Hp]; · iexact Hp
  isplitl [Hx]; · iexact Hx
  isplitl [Hc H0]
  · unfold wPre
    iapply (ps_join c _ _); isplitl [Hc] <;> iassumption
  iexact H3

/-! ## The reduction and the sending of its result -/

theorem second_ok (c : Dev nD) (t : Fin 2) (l : ℕ) (hl : l < 3) (mid : PG F) (P : sProp 𝕄)
    (hmid : iprop(St m c (nAg l t.val) ∗ P) ⊢ Wp c mid fun _ =>
      iprop((St m c (nAg l t.val) ∗ ps c fun s => iprop(pos c (.dm 2 t s) l ∗ reached ER (cell c (.dm 2 t s)) l)) ∗ xAny c t c)) :
    iprop(St m c (nAg l t.val) ∗ pOn c (cset t c) (pv m l c) ∗ P ∗ ps c (fun s => wPre c (.dm 1 t s) l) ∗ ps c (fun s => tokAg c t l s))
      ⊢ Wp c (second mid c t) fun _ => iprop(St m c (nAg l t.val + 7) ∗ pOn c (cset t c) (pv m l c) ∗ xKept m c t l
        ∗ ps c (fun s => wPre c (.dm 2 t s) l) ∗ ps c (fun s => pos c (.dm 1 t s) (l + 1)) ∗ ps c (fun s => keepR m c t l s)) := by
  have ht := t.isLt
  unfold second
  iintro ⟨HS, Hp, HP, H1, Ht⟩
  iapply (step (peers_0 m (nAg l t.val) (fun s => wPre c (.dm 1 t s) l) (fun s => iprop(wPost c (.dm 1 t s) l ∗ rsPay m c t s l))
    (rsWait_ok m c t l _ hl (fun i h _ => by unfold nAg at h; unfold lvS; rw [if_neg (by omega)]; omega)))) $$ [HS H1]
  · isplitl [HS] <;> iassumption
  iintro ⟨HS, H1⟩
  ihave H1 := (ps_split c _ _) $$ H1
  icases H1 with ⟨H1, Hrs⟩
  unfold rsPay
  ihave Hrs := (ps_split c _ _) $$ Hrs
  icases Hrs with ⟨Hr, Hrs⟩
  unfold wPost
  ihave H1 := (ps_split c _ _) $$ H1
  icases H1 with ⟨H1, K1⟩
  iapply (step (red_ok m c t l mid _ _ hmid)) $$ [Hp Hr HS HP]
  · isplitl [Hp]; · iexact Hp
    isplitl [Hr]; · unfold ps; iexact Hr
    isplitl [HS] <;> iassumption
  iintro ⟨Hp, Hr, ⟨HS, H2⟩, Hx⟩
  ihave H2 := (ps_split c _ _) $$ H2
  icases H2 with ⟨H2, K2⟩
  ihave Hx := (xOn_lend m c t l).1 $$ Hx
  icases Hx with ⟨Hx, Hxs⟩
  iapply (step (peers_n m (nAg l t.val) (fun s => iprop(xOn c (cset t c) (qs s) (xv m l) ∗ rOn c (cset t s) (rv m l c)
        ∗ xAny s t c ∗ reached ER (cell s (.dm 3 t c)) l ∗ reached ER (cell c (.dm 1 t s)) (l + 1)
        ∗ reached ER (cell c (.dm 2 t s)) l ∗ tokAg c t l s))
    (fun s => iprop(crd c (.dm 2 t s) l ∗ keepR m c t l s)) (agSend_all m c t l hl))) $$ [HS Hxs Hr Hrs K1 K2 Ht]
  · isplitl [HS]; · iexact HS
    iapply (ps_join c _ _); isplitl [Hxs]; · iexact Hxs
    iapply (ps_join c _ _); isplitl [Hr]; · unfold ps; iexact Hr
    ihave Hrs := (ps_split c _ _) $$ Hrs
    icases Hrs with ⟨Hra, Hrs⟩
    iapply (ps_join c _ _); isplitl [Hra]; · iexact Hra
    iapply (ps_join c _ _); isplitl [Hrs]; · iexact Hrs
    iapply (ps_join c _ _); isplitl [K1]; · iexact K1
    iapply (ps_join c _ _); isplitl [K2]; · iexact K2
    iexact Ht
  iintro ⟨HS, Hc⟩
  ihave Hc := (ps_split c _ _) $$ Hc
  icases Hc with ⟨Hc, Hk⟩
  iapply done
  isplitl [HS]; · iexact HS
  isplitl [Hp]; · iexact Hp
  isplitl [Hx]; · iexact Hx
  isplitl [Hc H2]
  · unfold wPre
    iapply (ps_join c _ _); isplitl [Hc] <;> iassumption
  isplitl [H1]; · iexact H1
  iexact Hk

/-- Layer 0: nothing to wait for before the rows are written. -/
theorem mid0_ok (c : Dev nD) (t : Fin 2) :
    iprop(St m c (nAg 0 t.val) ∗ (xAny c t c ∗ ps c fun s => pos c (.dm 2 t s) 0)) ⊢ Wp c nop fun _ =>
      iprop((St m c (nAg 0 t.val) ∗ ps c fun s => iprop(pos c (.dm 2 t s) 0 ∗ reached ER (cell c (.dm 2 t s)) 0)) ∗ xAny c t c) := by
  have h : iprop(St m c (nAg 0 t.val) ∗ ps c fun s => pos c (.dm 2 t s) 0)
      ⊢ Wp c (overPeers fun _ => nop) fun _ => iprop(St m c (nAg 0 t.val) ∗ ps c fun s => iprop(pos c (.dm 2 t s) 0 ∗ reached ER (cell c (.dm 2 t s)) 0)) := by
    refine peers_0 m _ _ _ fun j => ?_
    unfold nop
    refine BIBase.Entails.trans ?_ (ret_ok _ _)
    iintro ⟨HS, Hp⟩
    ihave HS := (St_known m c _ c (.dm 2 t (peer c j))) $$ HS
    icases HS with ⟨HS, K⟩
    isplitl [HS]; · iexact HS
    isplitl [Hp] <;> iassumption
  refine BIBase.Entails.trans ?_ (wp_frame' (R := xAny c t c) h)
  iintro ⟨HS, Hx, Hp⟩
  isplitl [HS Hp]; · isplitl [HS] <;> iassumption
  iexact Hx

/-- A later layer: the transfers of the layer before are done with the rows. -/
theorem mid_ok (c : Dev nD) (t : Fin 2) (l : ℕ) (hl : l < 2) :
    iprop(St m c (nAg (l + 1) t.val) ∗ (xKept m c t l ∗ ps c fun s => wPre c (.dm 2 t s) l)) ⊢ Wp c (overPeers (agSent c t)) fun _ =>
      iprop((St m c (nAg (l + 1) t.val) ∗ ps c fun s => iprop(pos c (.dm 2 t s) (l + 1) ∗ reached ER (cell c (.dm 2 t s)) (l + 1))) ∗ xAny c t c) := by
  have ht := t.isLt
  have h := wp_frame' (R := xKept m c t l) (peers_0 m (nAg (l + 1) t.val) (fun s => wPre c (.dm 2 t s) l)
    (fun s => iprop(wPost c (.dm 2 t s) l ∗ xOn c (cset t c) (qs s) (xv m l)))
    (agSent_ok m c t l _ (by omega) (fun i h _ => by unfold nAg at h; unfold lvS; rw [if_neg (by omega)]; omega)))
  refine BIBase.Entails.trans ?_ (h.trans (wp_mono _ _ _ fun _ => ?_))
  · iintro ⟨HS, Hx, Hp⟩
    isplitl [HS Hp]; · isplitl [HS] <;> iassumption
    iexact Hx
  · iintro ⟨⟨HS, H⟩, Hx⟩
    ihave H := (ps_split c _ _) $$ H
    icases H with ⟨Hp, Hxs⟩
    ihave Hx := (xOn_lend m c t l).2 $$ [Hx Hxs]
    · isplitl [Hx] <;> iassumption
    unfold wPost xAny
    isplitr [Hx]
    · isplitl [HS] <;> iassumption
    iexists _; iexact Hx

end Cert.KernelIdeal.P

end
-- ==== Proof.Local.lean ====
/- The local copies: the input and the weights into the scratch buffers, the result out. -/
module

public import proofs.«01_k».proof.Proof.Phases

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The weight slots -/

theorem mem_wi {l : Fin 3} {i : S3x256x512.Idx} : i ∈ (wiRect l).set ↔ l.val = (i (0 : Fin 3)).val := by
  unfold wiRect
  rw [Rect.mem_set_unit]
  have h1 : (i (1 : Fin 3)).val < 256 := (i (1 : Fin 3)).isLt
  have h2 : (i (2 : Fin 3)).val < 512 := (i (2 : Fin 3)).isLt
  refine ⟨fun h => ?_, fun h a => ?_⟩
  · have h0 : l.val ≤ (i (0 : Fin 3)).val ∧ (i (0 : Fin 3)).val < l.val + 1 := h (0 : Fin 3)
    omega
  · match a with
    | ⟨0, _⟩ => show l.val ≤ (i (0 : Fin 3)).val ∧ (i (0 : Fin 3)).val < l.val + 1; omega
    | ⟨1, _⟩ => show 0 ≤ (i (1 : Fin 3)).val ∧ (i (1 : Fin 3)).val < 0 + 256; omega
    | ⟨2, _⟩ => show 0 ≤ (i (2 : Fin 3)).val ∧ (i (2 : Fin 3)).val < 0 + 512; omega
theorem mem_wo {l : Fin 3} {i : S3x512x256.Idx} : i ∈ (woRect l).set ↔ l.val = (i (0 : Fin 3)).val := by
  unfold woRect
  rw [Rect.mem_set_unit]
  have h1 : (i (1 : Fin 3)).val < 512 := (i (1 : Fin 3)).isLt
  have h2 : (i (2 : Fin 3)).val < 256 := (i (2 : Fin 3)).isLt
  refine ⟨fun h => ?_, fun h a => ?_⟩
  · have h0 : l.val ≤ (i (0 : Fin 3)).val ∧ (i (0 : Fin 3)).val < l.val + 1 := h (0 : Fin 3)
    omega
  · match a with
    | ⟨0, _⟩ => show l.val ≤ (i (0 : Fin 3)).val ∧ (i (0 : Fin 3)).val < l.val + 1; omega
    | ⟨1, _⟩ => show 0 ≤ (i (1 : Fin 3)).val ∧ (i (1 : Fin 3)).val < 0 + 512; omega
    | ⟨2, _⟩ => show 0 ≤ (i (2 : Fin 3)).val ∧ (i (2 : Fin 3)).val < 0 + 256; omega

theorem bigSep3 (A : Fin 3 → sProp 𝕄) : bigSep Finset.univ A = iprop(A 0 ∗ A 1 ∗ A 2) :=
  bigSep_univ_eq_bigSepL [0, 1, 2] (by decide) (by decide) A

def wiAt (c : Dev nD) (l : Fin 3) (f : Vec F S3x256x512 .f32) : sProp 𝕄 := ((c : Thread nD τ).loc cc0_scratch4) ↦[(wiRect l).set]{fullShare} f
def woAt (c : Dev nD) (l : Fin 3) (f : Vec F S3x512x256 .f32) : sProp 𝕄 := ((c : Thread nD τ).loc cc0_scratch5) ↦[(woRect l).set]{fullShare} f

theorem wi_cover : (Finset.univ : Finset (Fin 3)).biUnion (fun l => (wiRect l).set) = Finset.univ := by
  ext i
  simp only [Finset.mem_biUnion, Finset.mem_univ, true_and, iff_true]
  exact ⟨⟨(i (0 : Fin 3)).val, (i (0 : Fin 3)).isLt⟩, mem_wi.mpr rfl⟩
theorem wi_slots (c : Dev nD) (f : Vec F S3x256x512 .f32) :
    (((c : Thread nD τ).loc cc0_scratch4) ↦{fullShare} f : sProp 𝕄) = iprop(wiAt c 0 f ∗ wiAt c 1 f ∗ wiAt c 2 f) := by
  rw [← bigSep3 (fun l => wiAt c l f), ← wi_cover]
  exact pointsTo_biUnion _ _ fun l _ l' _ h => Finset.disjoint_left.mpr fun i h1 h2 => h (Fin.ext ((mem_wi.mp h1).trans (mem_wi.mp h2).symm))
theorem wo_cover : (Finset.univ : Finset (Fin 3)).biUnion (fun l => (woRect l).set) = Finset.univ := by
  ext i
  simp only [Finset.mem_biUnion, Finset.mem_univ, true_and, iff_true]
  exact ⟨⟨(i (0 : Fin 3)).val, (i (0 : Fin 3)).isLt⟩, mem_wo.mpr rfl⟩
theorem wo_slots (c : Dev nD) (f : Vec F S3x512x256 .f32) :
    (((c : Thread nD τ).loc cc0_scratch5) ↦{fullShare} f : sProp 𝕄) = iprop(woAt c 0 f ∗ woAt c 1 f ∗ woAt c 2 f) := by
  rw [← bigSep3 (fun l => woAt c l f), ← wo_cover]
  exact pointsTo_biUnion _ _ fun l _ l' _ h => Finset.disjoint_left.mpr fun i h1 h2 => h (Fin.ext ((mem_wo.mp h1).trans (mem_wo.mp h2).symm))

theorem set_wi (l : Fin 3) : (wiM l).view.set = (wiRect l).set := (View.set_reshape _ _).trans (View.set_slice_whole _ _)
theorem set_wo (l : Fin 3) : (woM l).view.set = (woRect l).set := (View.set_reshape _ _).trans (View.set_slice_whole _ _)

theorem emb_wi (l : Fin 3) (j : S256x512.Idx) :
    (((wiM l).view.emb j : S3x256x512.Idx) (0 : Fin 3)).val = l.val ∧ (((wiM l).view.emb j : S3x256x512.Idx) (1 : Fin 3)).val = (j (0 : Fin 2)).val
      ∧ (((wiM l).view.emb j : S3x256x512.Idx) (2 : Fin 3)).val = (j (1 : Fin 2)).val := by
  have h : ((wiM l).view.emb j : S3x256x512.Idx) = (wiRect l).emb (Fin.cons ⟨0, Nat.one_pos⟩ j : S1x256x512.Idx) :=
    congrArg (fun z : S1x256x512.Idx => ((wiRect l).emb z : S3x256x512.Idx)) (Shape.reshapeEquiv_cons_one (n := 2) (d := ![256, 512]) squeezes_S1x256x512_S256x512.numel_eq j)
  rw [h]
  unfold wiRect
  refine ⟨?_, ?_, ?_⟩
  · rw [Rect.emb_apply]; show l.val + 1 * 0 = _; omega
  · rw [Rect.emb_apply]; show 0 + 1 * (j (0 : Fin 2)).val = _; omega
  · rw [Rect.emb_apply]; show 0 + 1 * (j (1 : Fin 2)).val = _; omega
theorem emb_wo (l : Fin 3) (j : S512x256.Idx) :
    (((woM l).view.emb j : S3x512x256.Idx) (0 : Fin 3)).val = l.val ∧ (((woM l).view.emb j : S3x512x256.Idx) (1 : Fin 3)).val = (j (0 : Fin 2)).val
      ∧ (((woM l).view.emb j : S3x512x256.Idx) (2 : Fin 3)).val = (j (1 : Fin 2)).val := by
  have h : ((woM l).view.emb j : S3x512x256.Idx) = (woRect l).emb (Fin.cons ⟨0, Nat.one_pos⟩ j : S1x512x256.Idx) :=
    congrArg (fun z : S1x512x256.Idx => ((woRect l).emb z : S3x512x256.Idx)) (Shape.reshapeEquiv_cons_one (n := 2) (d := ![512, 256]) squeezes_S1x512x256_S512x256.numel_eq j)
  rw [h]
  unfold woRect
  refine ⟨?_, ?_, ?_⟩
  · rw [Rect.emb_apply]; show l.val + 1 * 0 = _; omega
  · rw [Rect.emb_apply]; show 0 + 1 * (j (0 : Fin 2)).val = _; omega
  · rw [Rect.emb_apply]; show 0 + 1 * (j (1 : Fin 2)).val = _; omega

theorem winAll_emb (c : Dev nD) (l : Fin 3) (j : S256x512.Idx) :
    winAll m c ((wiM l).view.emb j) = (aWin l).view.read (Elt F) (winArg m c l) j := by
  obtain ⟨h0, h1, h2⟩ := emb_wi l j
  unfold winAll
  have e0 : (⟨(((wiM l).view.emb j : S3x256x512.Idx) (0 : Fin 3)).val, (((wiM l).view.emb j : S3x256x512.Idx) (0 : Fin 3)).isLt⟩ : Fin 3) = l := Fin.ext h0
  rw [e0]
  congr 1
  funext a
  match a with
  | ⟨0, _⟩ => exact Fin.ext h1
  | ⟨1, _⟩ => exact Fin.ext h2
theorem woutAll_emb (c : Dev nD) (l : Fin 3) (j : S512x256.Idx) :
    woutAll m c ((woM l).view.emb j) = (aWout l).view.read (Elt F) (woutArg m c l) j := by
  obtain ⟨h0, h1, h2⟩ := emb_wo l j
  unfold woutAll
  have e0 : (⟨(((woM l).view.emb j : S3x512x256.Idx) (0 : Fin 3)).val, (((woM l).view.emb j : S3x512x256.Idx) (0 : Fin 3)).isLt⟩ : Fin 3) = l := Fin.ext h0
  rw [e0]
  congr 1
  funext a
  match a with
  | ⟨0, _⟩ => exact Fin.ext h1
  | ⟨1, _⟩ => exact Fin.ext h2

theorem landed_wi (c : Dev nD) (l : Fin 3) (fd : Vec F S3x256x512 .f32) (i : S3x256x512.Idx) (hi : i ∈ (wiRect l).set) :
    (wiM l).view.write (Elt F) fd ((aWin l).view.read (Elt F) (winArg m c l)) Finset.univ i = winAll m c i := by
  rw [← set_wi l] at hi
  obtain ⟨j, -, rfl⟩ := Finset.mem_map.mp hi
  exact (View.write_emb_of_mem (v := (wiM l).view) _ _ (Finset.mem_univ j)).trans (winAll_emb m c l j).symm
theorem landed_wo (c : Dev nD) (l : Fin 3) (fd : Vec F S3x512x256 .f32) (i : S3x512x256.Idx) (hi : i ∈ (woRect l).set) :
    (woM l).view.write (Elt F) fd ((aWout l).view.read (Elt F) (woutArg m c l)) Finset.univ i = woutAll m c i := by
  rw [← set_wo l] at hi
  obtain ⟨j, -, rfl⟩ := Finset.mem_map.mp hi
  exact (View.write_emb_of_mem (v := (woM l).view) _ _ (Finset.mem_univ j)).trans (woutAll_emb m c l j).symm

/-! ## The copies and their waits -/

def winIn (c : Dev nD) (l : Fin 3) : sProp 𝕄 := (aWin l).view.loc (c : Thread nD τ) ↦[(aWin l).view.set]{fullShare} winArg m c l
def woutIn (c : Dev nD) (l : Fin 3) : sProp 𝕄 := (aWout l).view.loc (c : Thread nD τ) ↦[(aWout l).view.set]{fullShare} woutArg m c l
def xIn (c : Dev nD) : sProp 𝕄 := ((c : Thread nD τ).loc main_arg0) ↦{fullShare} (xArg m c)

theorem ldPay_win (c : Dev nD) (l : Fin 3) : ldPay m c (kWin l) = iprop(wiOn m c l ∗ winIn m c l) := by fin_cases l <;> rfl
theorem ldPay_wout (c : Dev nD) (l : Fin 3) : ldPay m c (kWout l) = iprop(woOn m c l ∗ woutIn m c l) := by fin_cases l <;> rfl
theorem ldAmt_win (l : Fin 3) : (wiM l).view.dmaCredit = ldAmt (kWin l) := by fin_cases l <;> rfl
theorem ldAmt_wout (l : Fin 3) : (woM l).view.dmaCredit = ldAmt (kWout l) := by fin_cases l <;> rfl

theorem ldX_ok' (c : Dev nD) (n : ℕ) (f : Vec F S512x256 .f32) :
    iprop(St m c n ∗ xIn m c ∗ (((c : Thread nD τ).loc cc0_scratch3) ↦{fullShare} f) ∗ dutyTok ER (cell c (.ld 0)) 0 0)
      ⊢ Wp c ldX fun _ => iprop(St m c n ∗ crd c (.ld 0) 0) := by
  unfold ldX xIn
  have h := copy_ok m c (src := a0) (dst := xin) (fs := xArg m c) (fd := f) (q := fullShare) (hsrc := (hbf _).wordExact) (hdst := (hbf _).wordExact) (hsem := ⟨Or.inl rfl, trivial⟩) n 0 (semL_eq 0) rfl (by
    rw [show xin.view.write (Elt F) f (a0.view.read (Elt F) (xArg m c)) Finset.univ = xArg m c from View.write_whole_univ _ _ _,
      show a0.view.set = Finset.univ from View.set_whole _, show xin.view.set = Finset.univ from View.set_whole _]
    exact .rfl)
  rw [show a0.view.set = Finset.univ from View.set_whole _, show xin.view.set = Finset.univ from View.set_whole _] at h
  exact h

theorem ldWin_ok (c : Dev nD) (l : Fin 3) (n : ℕ) (f : Vec F S3x256x512 .f32) :
    iprop(St m c n ∗ winIn m c l ∗ wiAt c l f ∗ dutyTok ER (cell c (.ld (kWin l))) 0 0)
      ⊢ Wp c (ldWin l) fun _ => iprop(St m c n ∗ crd c (.ld (kWin l)) 0) := by
  unfold ldWin winIn wiAt
  rw [← set_wi l]
  refine copy_ok m c (src := aWin l) (dst := wiM l) (fs := winArg m c l) (fd := f) n (kWin l) (semL_eq _) (ldAmt_win l) ?_
  rw [ldPay_win, set_wi l]
  exact sep_mono_left (Entails.of_eq (pointsTo_congr fun i hi => landed_wi m c l f i hi))
theorem ldWout_ok (c : Dev nD) (l : Fin 3) (n : ℕ) (f : Vec F S3x512x256 .f32) :
    iprop(St m c n ∗ woutIn m c l ∗ woAt c l f ∗ dutyTok ER (cell c (.ld (kWout l))) 0 0)
      ⊢ Wp c (ldWout l) fun _ => iprop(St m c n ∗ crd c (.ld (kWout l)) 0) := by
  unfold ldWout woutIn woAt
  rw [← set_wo l]
  refine copy_ok m c (src := aWout l) (dst := woM l) (fs := woutArg m c l) (fd := f) n (kWout l) (semL_eq _) (ldAmt_wout l) ?_
  rw [ldPay_wout, set_wo l]
  exact sep_mono_left (Entails.of_eq (pointsTo_congr fun i hi => landed_wo m c l f i hi))

theorem stOut_ok (c : Dev nD) (n : ℕ) (f : Vec F S512x256 .f32) :
    iprop(St m c n ∗ (((c : Thread nD τ).loc cc0_scratch6) ↦{fullShare} (yv m)) ∗ (((c : Thread nD τ).loc main_v1) ↦{fullShare} f) ∗ dutyTok ER (cell c (.ld 7)) 0 0)
      ⊢ Wp c stOut fun _ => iprop(St m c n ∗ crd c (.ld 7) 0) := by
  unfold stOut
  have h := copy_ok m c (src := ob) (dst := out) (fs := yv m) (fd := f) (q := fullShare) (hsrc := (hbf _).wordExact) (hdst := (hbf _).wordExact) (hsem := ⟨Or.inl rfl, trivial⟩) n 7 (semL_eq 7) rfl (by
    rw [show out.view.write (Elt F) f (ob.view.read (Elt F) (yv m)) Finset.univ = yv m from View.write_whole_univ _ _ _,
      show ob.view.set = Finset.univ from View.set_whole _, show out.view.set = Finset.univ from View.set_whole _]
    exact .rfl)
  rw [show ob.view.set = Finset.univ from View.set_whole _, show out.view.set = Finset.univ from View.set_whole _] at h
  exact h

theorem low (n : ℕ) (hn : 7 ≤ n) (k : Fin 8) : ∀ i, n ≤ i → i < 91 → lvK (.ld k) 0 < lvS i := by
  intro i h _
  show 0 < lvS i
  unfold lvS; rw [if_neg (by omega)]; omega

theorem ldXWait_ok (c : Dev nD) (n : ℕ) (hn : 7 ≤ n) :
    iprop(St m c n ∗ wPre c (.ld 0) 0) ⊢ Wp c ldXWait fun _ => iprop(St m c n ∗ wPost c (.ld 0) 0 ∗ iOn m c ∗ xIn m c) := by
  unfold ldXWait
  exact waitRound_ok m c (.ld 0) n 0 (congrArg SemLoc.dma (semL_eq 0)) rfl rfl (by decide) (low n hn 0)
theorem ldWinWait_ok (c : Dev nD) (l : Fin 3) (n : ℕ) (hn : 7 ≤ n) :
    iprop(St m c n ∗ wPre c (.ld (kWin l)) 0) ⊢ Wp c (ldWinWait l) fun _ => iprop(St m c n ∗ wPost c (.ld (kWin l)) 0 ∗ wiOn m c l ∗ winIn m c l) := by
  unfold ldWinWait
  rw [← ldPay_win]
  exact waitRound_ok m c (.ld (kWin l)) n 0 (congrArg SemLoc.dma (semL_eq _)) rfl (ldAmt_win l) (by decide) (low n hn _)
theorem ldWoutWait_ok (c : Dev nD) (l : Fin 3) (n : ℕ) (hn : 7 ≤ n) :
    iprop(St m c n ∗ wPre c (.ld (kWout l)) 0) ⊢ Wp c (ldWoutWait l) fun _ => iprop(St m c n ∗ wPost c (.ld (kWout l)) 0 ∗ woOn m c l ∗ woutIn m c l) := by
  unfold ldWoutWait
  rw [← ldPay_wout]
  exact waitRound_ok m c (.ld (kWout l)) n 0 (congrArg SemLoc.dma (semL_eq _)) rfl (ldAmt_wout l) (by decide) (low n hn _)
theorem stOutWait_ok (c : Dev nD) (n : ℕ) (hn : 7 ≤ n) :
    iprop(St m c n ∗ wPre c (.ld 7) 0) ⊢ Wp c stOutWait fun _ => iprop(St m c n ∗ wPost c (.ld 7) 0 ∗ outPay m c) := by
  unfold stOutWait
  exact waitRound_ok m c (.ld 7) n 0 (congrArg SemLoc.dma (semL_eq 7)) rfl rfl (by decide) (low n hn 7)

end Cert.KernelIdeal.P

end
-- ==== Proof.Layers.lean ====
/- The layers: both row streams through the products, the reduction and the two exchanges. -/
module

public import proofs.«01_k».proof.Proof.Local

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

theorem St_eq (c : Dev nD) {n n' : ℕ} (h : n = n') : St m c n ⊢ St m c n' := h ▸ .rfl

theorem wPost_pos (c : Dev nD) (k : Cell) (l : ℕ) : (wPost c k l : sProp 𝕄) ⊢ pos c k (l + 1) := by
  unfold wPost; iintro ⟨H, -⟩; iexact H

/-! ## What a stream holds between its phases -/

/-- The positions of a stream's cells before any round. -/
def PosIn (c : Dev nD) (t : Fin 2) : sProp 𝕄 :=
  iprop(ps c (fun s => pos c (.dm 0 t s) 0) ∗ ps c (fun s => pos c (.dm 1 t s) 0) ∗ ps c (fun s => pos c (.dm 2 t s) 0) ∗ ps c (fun s => pos c (.dm 3 t s) 0))
/-- What a layer uses up: the credit of its receptions, the duties of its transfers. -/
def Fuel (c : Dev nD) (t : Fin 2) (l : ℕ) : sProp 𝕄 :=
  iprop(ps c (fun s => crd c (.dm 1 t s) l) ∗ ps c (fun s => crd c (.dm 3 t s) l) ∗ ps c (fun s => tokRs c t l s) ∗ ps c (fun s => tokAg c t l s))
/-- A stream before layer 0. -/
def In (c : Dev nD) (t : Fin 2) : sProp 𝕄 :=
  iprop((∃ f, pOn c (rset t) f) ∗ ps c (fun s => rAny s t c) ∗ ps c (fun s => xAny c t s) ∗ xAny c t c ∗ PosIn c t)
/-- A stream whose partial chunks of layer `l` are sent; `P` is what the second half starts from. -/
def Half (c : Dev nD) (t : Fin 2) (l : ℕ) (P : sProp 𝕄) : sProp 𝕄 :=
  iprop(pOn c (cset t c) (pv m l c) ∗ ps c (fun s => wPre c (.dm 0 t s) l) ∗ P ∗ ps c (fun s => wPre c (.dm 1 t s) l)
    ∗ ps c (fun s => pos c (.dm 3 t s) l) ∗ ps c (fun s => crd c (.dm 3 t s) l) ∗ ps c (fun s => tokAg c t l s))
/-- A stream after layer `l`. -/
def Mid (c : Dev nD) (t : Fin 2) (l : ℕ) : sProp 𝕄 :=
  iprop(pOn c (cset t c) (pv m l c) ∗ xKept m c t l ∗ ps c (fun s => wPre c (.dm 0 t s) l) ∗ ps c (fun s => wPre c (.dm 2 t s) l)
    ∗ ps c (fun s => pos c (.dm 1 t s) (l + 1)) ∗ ps c (fun s => wPre c (.dm 3 t s) l) ∗ ps c (fun s => keepR m c t l s))

abbrev P0 (c : Dev nD) (t : Fin 2) : sProp 𝕄 := iprop(xAny c t c ∗ ps c fun s => pos c (.dm 2 t s) 0)
abbrev PL (c : Dev nD) (t : Fin 2) (l : ℕ) : sProp 𝕄 := iprop(xKept m c t l ∗ ps c fun s => wPre c (.dm 2 t s) l)

theorem firstHalf0 (c : Dev nD) (t : Fin 2) :
    iprop(St m c (nRs 0 t.val) ∗ (iOn m c ∗ wiOn m c 0 ∗ woOn m c 0) ∗ In c t ∗ Fuel c t 0)
      ⊢ Wp c (first0 c t) fun _ => iprop(St m c (nRs 0 t.val + 7) ∗ (iOn m c ∗ wiOn m c 0 ∗ woOn m c 0) ∗ Half m c t 0 (P0 c t)) := by
  refine BIBase.Entails.trans ?_ ((wp_frame' (R := iprop((xAny c t c ∗ ps c (fun s => pos c (.dm 2 t s) 0)) ∗ (ps c (fun s => crd c (.dm 1 t s) 0) ∗ ps c (fun s => pos c (.dm 1 t s) 0))
      ∗ ps c (fun s => pos c (.dm 3 t s) 0) ∗ ps c (fun s => crd c (.dm 3 t s) 0) ∗ ps c (fun s => tokAg c t 0 s))) (first0_ok m c t)).trans (wp_mono _ _ _ fun _ => ?_))
  · unfold In PosIn Fuel
    iintro ⟨HS, HW, ⟨Hp, Hr, Hxs, Hx, Q0, Q1, Q2, Q3⟩, C1, C3, T1, T2⟩
    isplitl [HS HW Hp Hr Hxs Q0 T1]
    · isplitl [HS]; · iexact HS
      isplitl [HW]; · iexact HW
      isplitl [Hp]; · iexact Hp
      isplitr [Q0]
      · iapply (ps_join c _ _); isplitl [Hr]; · iexact Hr
        iapply (ps_join c _ _); isplitl [Hxs] <;> iassumption
      iexact Q0
    isplitl [Hx Q2]; · isplitl [Hx] <;> iassumption
    isplitl [C1 Q1]; · isplitl [C1] <;> iassumption
    isplitl [Q3]; · iexact Q3
    isplitl [C3] <;> iassumption
  · unfold Half
    iintro ⟨⟨HS, HW, Hp, H0⟩, HP, ⟨C1, Q1⟩, Q3, C3, T2⟩
    isplitl [HS]; · iexact HS
    isplitl [HW]; · iexact HW
    isplitl [Hp]; · iexact Hp
    isplitl [H0]; · iexact H0
    isplitl [HP]; · iexact HP
    isplitl [C1 Q1]
    · unfold wPre; iapply (ps_join c _ _); isplitl [C1] <;> iassumption
    isplitl [Q3]; · iexact Q3
    isplitl [C3] <;> iassumption

theorem firstHalf (c : Dev nD) (t : Fin 2) (l : ℕ) (hl : l < 2) (k : Fin 3) (hk : Fin.ofNat 3 (l + 1) = k) :
    iprop(St m c (nRs (l + 1) t.val) ∗ (wiOn m c k ∗ woOn m c k) ∗ Mid m c t l ∗ Fuel c t (l + 1))
      ⊢ Wp c (first k c t) fun _ => iprop(St m c (nRs (l + 1) t.val + 7) ∗ (wiOn m c k ∗ woOn m c k) ∗ Half m c t (l + 1) (PL m c t l)) := by
  refine BIBase.Entails.trans ?_ ((wp_frame' (R := iprop(ps c (fun s => wPre c (.dm 2 t s) l) ∗ (ps c (fun s => crd c (.dm 1 t s) (l + 1)) ∗ ps c (fun s => pos c (.dm 1 t s) (l + 1)))
      ∗ ps c (fun s => crd c (.dm 3 t s) (l + 1)) ∗ ps c (fun s => tokAg c t (l + 1) s))) (first_ok m c t l hl k hk)).trans (wp_mono _ _ _ fun _ => ?_))
  · unfold Mid Fuel
    iintro ⟨HS, HW, ⟨Hp, Hx, H0, H2, Q1, H3, -⟩, C1, C3, T1, T2⟩
    isplitl [HS HW Hp Hx H3 H0 T1]
    · isplitl [HS]; · iexact HS
      isplitl [HW]; · iexact HW
      isplitl [Hp]; · iexact Hp
      isplitl [Hx]; · iexact Hx
      isplitl [H3]; · iexact H3
      isplitl [H0] <;> iassumption
    isplitl [H2]; · iexact H2
    isplitl [C1 Q1]; · isplitl [C1] <;> iassumption
    isplitl [C3] <;> iassumption
  · unfold Half
    iintro ⟨⟨HS, HW, Hp, Hx, H0, Q3⟩, H2, ⟨C1, Q1⟩, C3, T2⟩
    isplitl [HS]; · iexact HS
    isplitl [HW]; · iexact HW
    isplitl [Hp]; · iexact Hp
    isplitl [H0]; · iexact H0
    isplitl [Hx H2]; · isplitl [Hx] <;> iassumption
    isplitl [C1 Q1]
    · unfold wPre; iapply (ps_join c _ _); isplitl [C1] <;> iassumption
    isplitl [Q3]; · iexact Q3
    isplitl [C3] <;> iassumption

theorem secondHalf (c : Dev nD) (t : Fin 2) (l : ℕ) (hl : l < 3) (mid : PG F) (P : sProp 𝕄)
    (hmid : iprop(St m c (nAg l t.val) ∗ P) ⊢ Wp c mid fun _ =>
      iprop((St m c (nAg l t.val) ∗ ps c fun s => iprop(pos c (.dm 2 t s) l ∗ reached ER (cell c (.dm 2 t s)) l)) ∗ xAny c t c)) :
    iprop(St m c (nAg l t.val) ∗ Half m c t l P) ⊢ Wp c (second mid c t) fun _ => iprop(St m c (nAg l t.val + 7) ∗ Mid m c t l) := by
  refine BIBase.Entails.trans ?_ ((wp_frame' (R := iprop(ps c (fun s => wPre c (.dm 0 t s) l) ∗ ps c (fun s => crd c (.dm 3 t s) l) ∗ ps c (fun s => pos c (.dm 3 t s) l)))
    (second_ok m c t l hl mid P hmid)).trans (wp_mono _ _ _ fun _ => ?_))
  · unfold Half
    iintro ⟨HS, Hp, H0, HP, H1, Q3, C3, T2⟩
    isplitl [HS Hp HP H1 T2]
    · isplitl [HS]; · iexact HS
      isplitl [Hp]; · iexact Hp
      isplitl [HP]; · iexact HP
      isplitl [H1] <;> iassumption
    isplitl [H0]; · iexact H0
    isplitl [C3] <;> iassumption
  · unfold Mid
    iintro ⟨⟨HS, Hp, Hx, H2, Q1, Hk⟩, H0, C3, Q3⟩
    isplitl [HS]; · iexact HS
    isplitl [Hp]; · iexact Hp
    isplitl [Hx]; · iexact Hx
    isplitl [H0]; · iexact H0
    isplitl [H2]; · iexact H2
    isplitl [Q1]; · iexact Q1
    isplitl [C3 Q3]
    · unfold wPre; iapply (ps_join c _ _); isplitl [C3] <;> iassumption
    iexact Hk

/-! ## The layers -/

/-- A layer's weights awaited, and loaded. -/
def WIn (c : Dev nD) (l : Fin 3) : sProp 𝕄 := iprop(wPre c (.ld (kWin l)) 0 ∗ wPre c (.ld (kWout l)) 0)
def WOut (c : Dev nD) (l : Fin 3) : sProp 𝕄 :=
  iprop(pos c (.ld (kWin l)) 1 ∗ pos c (.ld (kWout l)) 1 ∗ (wiOn m c l ∗ woOn m c l) ∗ winIn m c l ∗ woutIn m c l)
def XOut (c : Dev nD) : sProp 𝕄 := iprop(pos c (.ld 0) 1 ∗ iOn m c ∗ xIn m c)

theorem layer0_ok (c : Dev nD) :
    iprop(St m c 7 ∗ wPre c (.ld 0) 0 ∗ WIn c 0 ∗ (In c 0 ∗ Fuel c 0 0) ∗ (In c 1 ∗ Fuel c 1 0))
      ⊢ Wp c (layer0 c) fun _ => iprop(St m c 35 ∗ XOut m c ∗ WOut m c 0 ∗ Mid m c 0 0 ∗ Mid m c 1 0) := by
  unfold layer0 WIn
  iintro ⟨HS, HX, ⟨HWi, HWo⟩, HA, HB⟩
  iapply (step (ldXWait_ok m c 7 (le_refl 7))) $$ [HS HX]; · isplitl [HS] <;> iassumption
  iintro ⟨HS, QX, Hi, HX⟩
  ihave QX := (wPost_pos c _ 0) $$ QX
  iapply (step (ldWinWait_ok m c 0 7 (le_refl 7))) $$ [HS HWi]; · isplitl [HS] <;> iassumption
  iintro ⟨HS, Qi, Hw, Hwi⟩
  ihave Qi := (wPost_pos c _ 0) $$ Qi
  iapply (step (ldWoutWait_ok m c 0 7 (le_refl 7))) $$ [HS HWo]; · isplitl [HS] <;> iassumption
  iintro ⟨HS, Qo, Ho, Hwo⟩
  ihave Qo := (wPost_pos c _ 0) $$ Qo
  iapply (step (firstHalf0 m c 0)) $$ [HS Hi Hw Ho HA]
  · isplitl [HS]; · iexact HS
    isplitr [HA]
    · isplitl [Hi]; · iexact Hi
      isplitl [Hw] <;> iassumption
    iexact HA
  iintro ⟨HS, ⟨Hi, Hw, Ho⟩, HA⟩
  iapply (step (firstHalf0 m c 1)) $$ [HS Hi Hw Ho HB]
  · isplitl [HS]; · iexact HS
    isplitr [HB]
    · isplitl [Hi]; · iexact Hi
      isplitl [Hw] <;> iassumption
    iexact HB
  iintro ⟨HS, ⟨Hi, Hw, Ho⟩, HB⟩
  ihave HS := (St_eq m c (n := nRs 0 (1 : Fin 2).val + 7) (n' := nAg 0 (0 : Fin 2).val) rfl) $$ HS
  iapply (step (secondHalf m c 0 0 (by decide) nop _ (mid0_ok m c 0))) $$ [HS HA]; · isplitl [HS] <;> iassumption
  iintro ⟨HS, HA⟩
  ihave HS := (St_eq m c (n := nAg 0 (0 : Fin 2).val + 7) (n' := nAg 0 (1 : Fin 2).val) rfl) $$ HS
  iapply (step (secondHalf m c 1 0 (by decide) nop _ (mid0_ok m c 1))) $$ [HS HB]; · isplitl [HS] <;> iassumption
  iintro ⟨HS, HB⟩
  iapply done
  unfold XOut WOut
  isplitl [HS]; · iexact HS
  isplitl [QX Hi HX]
  · isplitl [QX]; · iexact QX
    isplitl [Hi] <;> iassumption
  isplitl [Qi Qo Hw Ho Hwi Hwo]
  · isplitl [Qi]; · iexact Qi
    isplitl [Qo]; · iexact Qo
    isplitl [Hw Ho]; · isplitl [Hw] <;> iassumption
    isplitl [Hwi] <;> iassumption
  isplitl [HA] <;> iassumption

theorem layer_ok (c : Dev nD) (l : ℕ) (hl : l < 2) (k : Fin 3) (hk : Fin.ofNat 3 (l + 1) = k) :
    iprop(St m c (nRs (l + 1) 0) ∗ WIn c k ∗ (Mid m c 0 l ∗ Fuel c 0 (l + 1)) ∗ (Mid m c 1 l ∗ Fuel c 1 (l + 1)))
      ⊢ Wp c (layer k c) fun _ => iprop(St m c (nRs (l + 2) 0) ∗ WOut m c k ∗ Mid m c 0 (l + 1) ∗ Mid m c 1 (l + 1)) := by
  have h7 : 7 ≤ nRs (l + 1) 0 := by unfold nRs; omega
  unfold layer WIn
  iintro ⟨HS, ⟨HWi, HWo⟩, HA, HB⟩
  iapply (step (ldWinWait_ok m c k (nRs (l + 1) 0) h7)) $$ [HS HWi]; · isplitl [HS] <;> iassumption
  iintro ⟨HS, Qi, Hw, Hwi⟩
  ihave Qi := (wPost_pos c _ 0) $$ Qi
  iapply (step (ldWoutWait_ok m c k (nRs (l + 1) 0) h7)) $$ [HS HWo]; · isplitl [HS] <;> iassumption
  iintro ⟨HS, Qo, Ho, Hwo⟩
  ihave Qo := (wPost_pos c _ 0) $$ Qo
  iapply (step (firstHalf m c 0 l hl k hk)) $$ [HS Hw Ho HA]
  · isplitl [HS]; · iexact HS
    isplitr [HA]; · isplitl [Hw] <;> iassumption
    iexact HA
  iintro ⟨HS, ⟨Hw, Ho⟩, HA⟩
  ihave HS := (St_eq m c (n := nRs (l + 1) (0 : Fin 2).val + 7) (n' := nRs (l + 1) (1 : Fin 2).val) (show nRs (l + 1) 0 + 7 = nRs (l + 1) 1 by unfold nRs; omega)) $$ HS
  iapply (step (firstHalf m c 1 l hl k hk)) $$ [HS Hw Ho HB]
  · isplitl [HS]; · iexact HS
    isplitr [HB]; · isplitl [Hw] <;> iassumption
    iexact HB
  iintro ⟨HS, ⟨Hw, Ho⟩, HB⟩
  ihave HS := (St_eq m c (n := nRs (l + 1) (1 : Fin 2).val + 7) (n' := nAg (l + 1) (0 : Fin 2).val) (show nRs (l + 1) 1 + 7 = nAg (l + 1) 0 by unfold nRs nAg; omega)) $$ HS
  iapply (step (secondHalf m c 0 (l + 1) (by omega) _ _ (mid_ok m c 0 l hl))) $$ [HS HA]; · isplitl [HS] <;> iassumption
  iintro ⟨HS, HA⟩
  ihave HS := (St_eq m c (n := nAg (l + 1) (0 : Fin 2).val + 7) (n' := nAg (l + 1) (1 : Fin 2).val) (show nAg (l + 1) 0 + 7 = nAg (l + 1) 1 by unfold nAg; omega)) $$ HS
  iapply (step (secondHalf m c 1 (l + 1) (by omega) _ _ (mid_ok m c 1 l hl))) $$ [HS HB]; · isplitl [HS] <;> iassumption
  iintro ⟨HS, HB⟩
  ihave HS := (St_eq m c (n := nAg (l + 1) (1 : Fin 2).val + 7) (n' := nRs (l + 2) 0) (show nAg (l + 1) 1 + 7 = nRs (l + 2) 0 by unfold nRs nAg; omega)) $$ HS
  iapply done
  unfold WOut
  isplitl [HS]; · iexact HS
  isplitl [Qi Qo Hw Ho Hwi Hwo]
  · isplitl [Qi]; · iexact Qi
    isplitl [Qo]; · iexact Qo
    isplitl [Hw Ho]; · isplitl [Hw] <;> iassumption
    isplitl [Hwi] <;> iassumption
  isplitl [HA] <;> iassumption

end Cert.KernelIdeal.P

end
-- ==== Proof.Body.lean ====
/- The whole body of a device: the entry, the layers, the exit. -/
module

public import proofs.«01_k».proof.Proof.Layers

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The entry -/

theorem bigSep_peers (c : Dev nD) (A : Dev nD → sProp 𝕄) : bigSep (Finset.univ.erase c) A = ps c A := by
  have h : Finset.univ.erase c = Finset.univ.image (peer c) := by
    ext s
    simp only [Finset.mem_erase, Finset.mem_univ, and_true, Finset.mem_image, true_and]
    exact ⟨fun hs => peer_surj c s hs, fun ⟨j, hj⟩ => hj ▸ peer_ne c j⟩
  rw [h, bigSep_image_of_injOn fun a _ b _ hab => peer_inj c a b hab]; rfl

theorem emp_sep_intro (P : sProp 𝕄) : P ⊢ iprop(P ∗ emp) := by
  iintro H
  isplitl [H]; · iexact H
  iempintro

theorem expect_bar (c : Dev nD) : (Rd (F := F) m).expect (cell c .bar) 0 = 7 := by
  unfold Schedule.expect Schedule.amountOf
  rw [Rd_duties, Finset.sum_congr rfl fun d _ => Rd_amount m c .bar 0 d]
  show ∑ d ∈ Finset.univ.erase c, 1 = 7
  rw [Finset.sum_const, Finset.card_erase_of_mem (Finset.mem_univ c), Finset.card_univ]
  rfl

theorem barWait_ok (c : Dev nD) :
    iprop(St m c 7 ∗ cred (tallyAt (cell c .bar) 0 7) ∗ pos c .bar 0)
      ⊢ Wp c (semWaitWord barSem 7#32) fun _ => iprop(St m c 7 ∗ pos c .bar 1 ∗ ps c (fun s => iprop(rAny s 0 c ∗ rAny s 1 c))) := by
  have h := wait_ok m c (w := .semWait barSem ((7 : ℕ) : Int)) (sm := .reg barSem) (k' := 7) .bar 0 7 0 (wpE_semWait_eq 𝒱₀ (c : Thread nD τ) none Set.univ) rfl (expect_bar m c) (by decide)
    (fun i h _ => by show 0 < lvS i; unfold lvS; rw [if_neg (by omega)]; omega)
  refine h.trans (wp_mono _ _ _ fun _ => ?_)
  rw [show (bigSep (duties c .bar 0) fun d => pay m c .bar 0 d) = ps c (fun s => iprop(rAny s 0 c ∗ rAny s 1 c)) from bigSep_peers c _]
  iintro ⟨HS, Hp, -, HR⟩
  isplitl [HS]; · iexact HS
  isplitl [Hp] <;> iassumption

theorem rAny_split (c : Dev nD) (f : Arr F) :
    rOn c Finset.univ f ⊢ iprop((rAny c 0 c ∗ rAny c 1 c) ∗ ps c fun s => iprop(rAny c 0 s ∗ rAny c 1 s)) := by
  have hA : ∀ t s, rOn c (cset t s) f ⊢ rAny c t s := fun t s => by unfold rAny; iintro H; iexists f; iexact H
  have hP : ∀ t, (ps c fun s => rOn c (cset t s) f) ⊢ ps c fun s => rAny c t s := fun t => ps_mono c fun s _ => hA t s
  refine (rOn_univ c f).1.trans ?_
  rw [rOn_rows, rOn_rows]
  iintro ⟨⟨H0, P0⟩, H1, P1⟩
  isplitl [H0 H1]
  · isplitl [H0]; · iapply (hA 0 c); iexact H0
    iapply (hA 1 c); iexact H1
  iapply (ps_join c _ _)
  isplitl [P0]; · iapply (hP 0); iexact P0
  iapply (hP 1); iexact P1

theorem xAny_split (c : Dev nD) (f : Arr F) :
    xOn c Finset.univ fullShare f ⊢ iprop((xAny c 0 c ∗ ps c fun s => xAny c 0 s) ∗ (xAny c 1 c ∗ ps c fun s => xAny c 1 s)) := by
  have hA : ∀ t s, xOn c (cset t s) fullShare f ⊢ xAny c t s := fun t s => by unfold xAny; iintro H; iexists f; iexact H
  have hP : ∀ t, (ps c fun s => xOn c (cset t s) fullShare f) ⊢ ps c fun s => xAny c t s := fun t => ps_mono c fun s _ => hA t s
  refine (xOn_univ c fullShare f).1.trans ?_
  rw [xOn_rows, xOn_rows]
  iintro ⟨⟨H0, P0⟩, H1, P1⟩
  isplitl [H0 P0]
  · isplitl [H0]; · iapply (hA 0 c); iexact H0
    iapply (hP 0); iexact P0
  · isplitl [H1]; · iapply (hA 1 c); iexact H1
    iapply (hP 1); iexact P1

/-- A local copy's duty and position. -/
def LdTok (c : Dev nD) (k : Fin 8) : sProp 𝕄 := iprop(dutyTok ER (cell c (.ld k)) 0 0 ∗ pos c (.ld k) 0)
/-- A layer's weight copies before they are issued. -/
def WTok (c : Dev nD) (l : Fin 3) : sProp 𝕄 := iprop((LdTok c (kWin l) ∗ winIn m c l) ∗ (LdTok c (kWout l) ∗ woutIn m c l))

theorem issueX (c : Dev nD) (n : ℕ) (f : Vec F S512x256 .f32) :
    iprop(St m c n ∗ (LdTok c 0 ∗ xIn m c) ∗ (((c : Thread nD τ).loc cc0_scratch3) ↦{fullShare} f)) ⊢ Wp c ldX fun _ => iprop(St m c n ∗ wPre c (.ld 0) 0) := by
  refine BIBase.Entails.trans ?_ ((wp_frame' (R := pos c (.ld 0) 0) (ldX_ok' m c n f)).trans (wp_mono _ _ _ fun _ => ?_))
  · unfold LdTok
    iintro ⟨HS, ⟨⟨Ht, Hp⟩, HA⟩, HB⟩
    isplitr [Hp]
    · isplitl [HS]; · iexact HS
      isplitl [HA]; · iexact HA
      isplitl [HB] <;> iassumption
    iexact Hp
  · unfold wPre
    iintro ⟨⟨HS, HC⟩, Hp⟩
    isplitl [HS]; · iexact HS
    isplitl [HC] <;> iassumption
theorem issueWin (c : Dev nD) (l : Fin 3) (n : ℕ) (f : Vec F S3x256x512 .f32) :
    iprop(St m c n ∗ (LdTok c (kWin l) ∗ winIn m c l) ∗ wiAt c l f) ⊢ Wp c (ldWin l) fun _ => iprop(St m c n ∗ wPre c (.ld (kWin l)) 0) := by
  refine BIBase.Entails.trans ?_ ((wp_frame' (R := pos c (.ld (kWin l)) 0) (ldWin_ok m c l n f)).trans (wp_mono _ _ _ fun _ => ?_))
  · unfold LdTok
    iintro ⟨HS, ⟨⟨Ht, Hp⟩, HA⟩, HB⟩
    isplitr [Hp]
    · isplitl [HS]; · iexact HS
      isplitl [HA]; · iexact HA
      isplitl [HB] <;> iassumption
    iexact Hp
  · unfold wPre
    iintro ⟨⟨HS, HC⟩, Hp⟩
    isplitl [HS]; · iexact HS
    isplitl [HC] <;> iassumption
theorem issueWout (c : Dev nD) (l : Fin 3) (n : ℕ) (f : Vec F S3x512x256 .f32) :
    iprop(St m c n ∗ (LdTok c (kWout l) ∗ woutIn m c l) ∗ woAt c l f) ⊢ Wp c (ldWout l) fun _ => iprop(St m c n ∗ wPre c (.ld (kWout l)) 0) := by
  refine BIBase.Entails.trans ?_ ((wp_frame' (R := pos c (.ld (kWout l)) 0) (ldWout_ok m c l n f)).trans (wp_mono _ _ _ fun _ => ?_))
  · unfold LdTok
    iintro ⟨HS, ⟨⟨Ht, Hp⟩, HA⟩, HB⟩
    isplitr [Hp]
    · isplitl [HS]; · iexact HS
      isplitl [HA]; · iexact HA
      isplitl [HB] <;> iassumption
    iexact Hp
  · unfold wPre
    iintro ⟨⟨HS, HC⟩, Hp⟩
    isplitl [HS]; · iexact HS
    isplitl [HC] <;> iassumption

/-- The duties and the credit of the entry handshake. -/
def BarIn (c : Dev nD) : sProp 𝕄 :=
  iprop(ps c (fun s => dutyTok ER (cell s .bar) 0 c) ∗ cred (tallyAt (cell c .bar) 0 7) ∗ pos c .bar 0)

theorem start_ok (c : Dev nD) (fx : Vec F S512x256 .f32) (fi : Vec F S3x256x512 .f32) (fo : Vec F S3x512x256 .f32) (fr : Arr F) :
    iprop(St m c 0 ∗ (LdTok c 0 ∗ xIn m c) ∗ WTok m c 0 ∗ WTok m c 1 ∗ WTok m c 2 ∗ BarIn c
        ∗ (((c : Thread nD τ).loc cc0_scratch3) ↦{fullShare} fx) ∗ (((c : Thread nD τ).loc cc0_scratch4) ↦{fullShare} fi)
        ∗ (((c : Thread nD τ).loc cc0_scratch5) ↦{fullShare} fo) ∗ rOn c Finset.univ fr)
      ⊢ Wp c (start c) fun _ => iprop(St m c 7 ∗ wPre c (.ld 0) 0 ∗ WIn c 0 ∗ WIn c 1 ∗ WIn c 2 ∗ pos c .bar 1 ∗ (rAny c 0 c ∗ rAny c 1 c)
        ∗ ps c (fun s => rAny s 0 c) ∗ ps c (fun s => rAny s 1 c)) := by
  unfold start WTok BarIn
  rw [wi_slots, wo_slots]
  iintro ⟨HS, TX, ⟨Ti0, To0⟩, ⟨Ti1, To1⟩, ⟨Ti2, To2⟩, ⟨Hbt, Hbc, Hbp⟩, HX, ⟨Wi0, Wi1, Wi2⟩, ⟨Wo0, Wo1, Wo2⟩, HR⟩
  iapply (step (issueX m c 0 fx)) $$ [HS TX HX]
  · isplitl [HS]; · iexact HS
    isplitl [TX] <;> iassumption
  iintro ⟨HS, CX⟩
  iapply (step (issueWin m c 0 0 fi)) $$ [HS Ti0 Wi0]
  · isplitl [HS]; · iexact HS
    isplitl [Ti0] <;> iassumption
  iintro ⟨HS, Ci0⟩
  iapply (step (issueWout m c 0 0 fo)) $$ [HS To0 Wo0]
  · isplitl [HS]; · iexact HS
    isplitl [To0] <;> iassumption
  iintro ⟨HS, Co0⟩
  iapply (step (issueWin m c 1 0 fi)) $$ [HS Ti1 Wi1]
  · isplitl [HS]; · iexact HS
    isplitl [Ti1] <;> iassumption
  iintro ⟨HS, Ci1⟩
  iapply (step (issueWout m c 1 0 fo)) $$ [HS To1 Wo1]
  · isplitl [HS]; · iexact HS
    isplitl [To1] <;> iassumption
  iintro ⟨HS, Co1⟩
  iapply (step (issueWin m c 2 0 fi)) $$ [HS Ti2 Wi2]
  · isplitl [HS]; · iexact HS
    isplitl [Ti2] <;> iassumption
  iintro ⟨HS, Ci2⟩
  iapply (step (issueWout m c 2 0 fo)) $$ [HS To2 Wo2]
  · isplitl [HS]; · iexact HS
    isplitl [To2] <;> iassumption
  iintro ⟨HS, Co2⟩
  ihave HR := (rAny_split c fr) $$ HR
  icases HR with ⟨HRo, HRp⟩
  iapply (step (show iprop(St m c 0 ∗ ps c fun s => iprop(dutyTok ER (cell s .bar) 0 c ∗ barPay s c))
      ⊢ Wp c (overPeers (signal c)) fun _ => iprop(St m c 7 ∗ ps c fun _ => iprop(emp)) from
    peers (fun k => St m c k) fun j => (signal_ok m c j).trans (wp_mono _ _ _ fun _ => (emp_sep_intro _)))) $$ [HS Hbt HRp]
  · isplitl [HS]; · iexact HS
    unfold barPay
    iapply (ps_join c _ _); isplitl [Hbt] <;> iassumption
  iintro ⟨HS, -⟩
  iapply (step (barWait_ok m c)) $$ [HS Hbc Hbp]
  · isplitl [HS]; · iexact HS
    isplitl [Hbc] <;> iassumption
  iintro ⟨HS, Hbp, HRp⟩
  ihave HRp := (ps_split c _ _) $$ HRp
  icases HRp with ⟨HR0, HR1⟩
  iapply done
  unfold WIn
  isplitl [HS]; · iexact HS
  isplitl [CX]; · iexact CX
  isplitl [Ci0 Co0]; · isplitl [Ci0] <;> iassumption
  isplitl [Ci1 Co1]; · isplitl [Ci1] <;> iassumption
  isplitl [Ci2 Co2]; · isplitl [Ci2] <;> iassumption
  isplitl [Hbp]; · iexact Hbp
  isplitl [HRo]; · iexact HRo
  isplitl [HR0] <;> iassumption

/-! ## The exit -/

/-- A stream while the result is read and stored. -/
def Rest (c : Dev nD) (t : Fin 2) : sProp 𝕄 :=
  iprop(pOn c (cset t c) (pv m 2 c) ∗ ps c (fun s => iprop(wPre c (.dm 0 t s) 2 ∗ wPre c (.dm 2 t s) 2)) ∗ ps c (fun s => pos c (.dm 1 t s) 3)
    ∗ ps c (fun s => pos c (.dm 3 t s) 3) ∗ ps c (fun s => keepR m c t 2 s) ∗ xOn c (cset t c) (qs c) (xv m 2) ∗ ps c (fun s => xToks c (cset t s) (xv m 2)))
/-- A stream at the end. -/
def End (c : Dev nD) (t : Fin 2) : sProp 𝕄 :=
  iprop(pOn c (rset t) (pv m 2 c) ∗ (xAny c t c ∗ ps c fun s => xAny c t s) ∗ ps c (fun s => rAny c t s) ∗ ps c (fun s => pos c (.dm 0 t s) 3)
    ∗ ps c (fun s => pos c (.dm 1 t s) 3) ∗ ps c (fun s => pos c (.dm 2 t s) 3) ∗ ps c (fun s => pos c (.dm 3 t s) 3))

theorem lateLow (k : Cell) (l : ℕ) : ∀ i, 91 ≤ i → i < 91 → lvK k l < lvS i := fun i h h' => absurd h' (by omega)

theorem gather_ok (c : Dev nD) (t : Fin 2) :
    iprop(St m c 91 ∗ Mid m c t 2) ⊢ Wp c (overPeers (agWait c t)) fun _ => iprop(St m c 91 ∗ xOn c (rset t) qk (xv m 2) ∗ Rest m c t) := by
  refine BIBase.Entails.trans ?_ ((wp_frame' (R := iprop(pOn c (cset t c) (pv m 2 c) ∗ xKept m c t 2 ∗ ps c (fun s => wPre c (.dm 0 t s) 2) ∗ ps c (fun s => wPre c (.dm 2 t s) 2)
      ∗ ps c (fun s => pos c (.dm 1 t s) 3) ∗ ps c (fun s => keepR m c t 2 s)))
    (peers_0 m 91 (fun s => wPre c (.dm 3 t s) 2) (fun s => iprop(wPost c (.dm 3 t s) 2 ∗ agPay m c t s 2))
      (agWait_ok m c t 2 91 (by decide) (fun i h h' => absurd h' (by omega))))).trans (wp_mono _ _ _ fun _ => ?_))
  · unfold Mid
    iintro ⟨HS, Hp, Hx, H0, H2, Q1, H3, Hk⟩
    isplitl [HS H3]; · isplitl [HS] <;> iassumption
    isplitl [Hp]; · iexact Hp
    isplitl [Hx]; · iexact Hx
    isplitl [H0]; · iexact H0
    isplitl [H2]; · iexact H2
    isplitl [Q1] <;> iassumption
  · unfold Rest wPost agPay
    iintro ⟨⟨HS, H3⟩, Hp, Hx, H0, H2, Q1, Hk⟩
    ihave H3 := (ps_split c _ _) $$ H3
    icases H3 with ⟨H3, Hag⟩
    ihave H3 := (ps_split c _ _) $$ H3
    icases H3 with ⟨Q3, -⟩
    ihave Hag := (ps_split c _ _) $$ Hag
    icases Hag with ⟨Hxs, -⟩
    ihave Hxx := (rows_in m c t 2) $$ [Hx Hxs]
    · isplitl [Hx] <;> iassumption
    icases Hxx with ⟨Hx, Hxc, Hxt⟩
    isplitl [HS]; · iexact HS
    isplitl [Hx]; · iexact Hx
    isplitl [Hp]; · iexact Hp
    isplitl [H0 H2]; · iapply (ps_join c _ _); isplitl [H0] <;> iassumption
    isplitl [Q1]; · iexact Q1
    isplitl [Q3]; · iexact Q3
    isplitl [Hk]; · iexact Hk
    isplitl [Hxc] <;> iassumption

theorem drain1_ok (c : Dev nD) (t : Fin 2) (j : Fin 7) :
    iprop(St m c 91 ∗ (wPre c (.dm 0 t (peer c j)) 2 ∗ wPre c (.dm 2 t (peer c j)) 2))
      ⊢ Wp c (seq [rsSent c t j, agSent c t j]) fun _ => iprop(St m c 91 ∗ ((pos c (.dm 0 t (peer c j)) 3 ∗ pos c (.dm 2 t (peer c j)) 3)
        ∗ pOn c (cset t (peer c j)) (pv m 2 c) ∗ xOn c (cset t c) (qs (peer c j)) (xv m 2))) := by
  iintro ⟨HS, H0, H2⟩
  iapply (step (rsSent_ok m c t 2 91 (by decide) (fun i h h' => absurd h' (by omega)) j)) $$ [HS H0]
  · isplitl [HS] <;> iassumption
  iintro ⟨HS, Q0, Hp⟩
  iapply (step (agSent_ok m c t 2 91 (by decide) (fun i h h' => absurd h' (by omega)) j)) $$ [HS H2]
  · isplitl [HS] <;> iassumption
  iintro ⟨HS, Q2, Hx⟩
  iapply done
  isplitl [HS]; · iexact HS
  isplitl [Q0 Q2]
  · isplitl [Q0]; · iapply (wPost_pos c _ 2); iexact Q0
    iapply (wPost_pos c _ 2); iexact Q2
  isplitl [Hp] <;> iassumption

theorem drain_ok (c : Dev nD) (t : Fin 2) :
    iprop(St m c 91 ∗ xOn c (rset t) qk (xv m 2) ∗ Rest m c t) ⊢ Wp c (drain c t) fun _ => iprop(St m c 91 ∗ End m c t) := by
  have hk : ∀ s, keepR m c t 2 s ⊢ rAny c t s := fun s => by
    unfold keepR rAny; rw [if_neg (by decide)]; iintro H; iexists _; iexact H
  have hx : xOn c (cset t c) fullShare (xv m 2) ⊢ xAny c t c := by unfold xAny; iintro H; iexists _; iexact H
  refine BIBase.Entails.trans ?_ ((wp_frame' (R := iprop(xOn c (rset t) qk (xv m 2) ∗ pOn c (cset t c) (pv m 2 c) ∗ ps c (fun s => pos c (.dm 1 t s) 3)
      ∗ ps c (fun s => pos c (.dm 3 t s) 3) ∗ ps c (fun s => keepR m c t 2 s) ∗ xOn c (cset t c) (qs c) (xv m 2) ∗ ps c (fun s => xToks c (cset t s) (xv m 2))))
    (peers_0 m 91 (fun s => iprop(wPre c (.dm 0 t s) 2 ∗ wPre c (.dm 2 t s) 2)) (fun s => iprop((pos c (.dm 0 t s) 3 ∗ pos c (.dm 2 t s) 3)
        ∗ pOn c (cset t s) (pv m 2 c) ∗ xOn c (cset t c) (qs s) (xv m 2))) (drain1_ok m c t))).trans (wp_mono _ _ _ fun _ => ?_))
  · unfold Rest
    iintro ⟨HS, Hq, Hp, H02, HR⟩
    isplitl [HS H02]; · isplitl [HS] <;> iassumption
    isplitl [Hq]; · iexact Hq
    isplitl [Hp] <;> iassumption
  · unfold End
    iintro ⟨⟨HS, H⟩, Hq, Hp, Q1, Q3, Hk, Hxc, Hxt⟩
    ihave H := (ps_split c _ _) $$ H
    icases H with ⟨HQ, H⟩
    ihave HQ := (ps_split c _ _) $$ HQ
    icases HQ with ⟨Q0, Q2⟩
    ihave H := (ps_split c _ _) $$ H
    icases H with ⟨Hps, Hxs⟩
    ihave Hxx := (rows_out m c t 2) $$ [Hq Hxc Hxt]
    · isplitl [Hq]; · iexact Hq
      isplitl [Hxc] <;> iassumption
    icases Hxx with ⟨Hx, Hxa⟩
    ihave Hx := (xOn_lend m c t 2).2 $$ [Hx Hxs]
    · isplitl [Hx] <;> iassumption
    isplitl [HS]; · iexact HS
    isplitl [Hp Hps]
    · iapply (Entails.of_eq (pOn_rows c t (pv m 2 c)).symm); isplitl [Hp] <;> iassumption
    isplitl [Hx Hxa]
    · isplitl [Hx]; · iapply hx; iexact Hx
      iexact Hxa
    isplitl [Hk]; · iapply (ps_mono c fun s _ => hk s); iexact Hk
    isplitl [Q0]; · iexact Q0
    isplitl [Q1]; · iexact Q1
    isplitl [Q2] <;> iassumption

theorem finish_ok (c : Dev nD) (fb fo : Vec F S512x256 .f32) :
    iprop(St m c 91 ∗ Mid m c 0 2 ∗ Mid m c 1 2 ∗ LdTok c 7 ∗ (((c : Thread nD τ).loc cc0_scratch6) ↦{fullShare} fb) ∗ (((c : Thread nD τ).loc main_v1) ↦{fullShare} fo))
      ⊢ Wp c (finish c) fun _ => iprop(St m c 91 ∗ End m c 0 ∗ End m c 1 ∗ pos c (.ld 7) 1 ∗ outPay m c) := by
  unfold finish LdTok
  iintro ⟨HS, HA, HB, ⟨Ht, Hp⟩, Hb, Ho⟩
  iapply (step (gather_ok m c 0)) $$ [HS HA]; · isplitl [HS] <;> iassumption
  iintro ⟨HS, XA, HA⟩
  iapply (step (gather_ok m c 1)) $$ [HS HB]; · isplitl [HS] <;> iassumption
  iintro ⟨HS, XB, HB⟩
  iapply (step (widen_ok m c qk)) $$ [XA XB Hb]
  · isplitr [Hb]
    · iapply (xOn_univ c qk (xv m 2)).2; isplitl [XA] <;> iassumption
    iexists fb; iexact Hb
  iintro ⟨HX, Hb⟩
  ihave HX := (xOn_univ c qk (xv m 2)).1 $$ HX
  icases HX with ⟨XA, XB⟩
  iapply (step (stOut_ok m c 91 fo)) $$ [HS Hb Ho Ht]
  · isplitl [HS]; · iexact HS
    isplitl [Hb]; · iexact Hb
    isplitl [Ho] <;> iassumption
  iintro ⟨HS, HC⟩
  iapply (step (drain_ok m c 0)) $$ [HS XA HA]
  · isplitl [HS]; · iexact HS
    isplitl [XA] <;> iassumption
  iintro ⟨HS, HA⟩
  iapply (step (drain_ok m c 1)) $$ [HS XB HB]
  · isplitl [HS]; · iexact HS
    isplitl [XB] <;> iassumption
  iintro ⟨HS, HB⟩
  iapply (step (stOutWait_ok m c 91 (by decide))) $$ [HS HC Hp]
  · isplitl [HS]; · iexact HS
    unfold wPre; isplitl [HC] <;> iassumption
  iintro ⟨HS, Hp, Ho⟩
  ihave Hp := (wPost_pos c _ 0) $$ Hp
  iapply done
  isplitl [HS]; · iexact HS
  isplitl [HA]; · iexact HA
  isplitl [HB]; · iexact HB
  isplitl [Hp] <;> iassumption

/-! ## The body -/

/-- What a device starts from besides the protocol: its scratch buffers, at any contents. -/
def Scratch (c : Dev nD) : sProp 𝕄 :=
  iprop((∃ f, xOn c Finset.univ fullShare f) ∗ (∃ f, pOn c Finset.univ f) ∗ (∃ f, rOn c Finset.univ f)
    ∗ (∃ f : Vec F S512x256 .f32, ((c : Thread nD τ).loc cc0_scratch3) ↦{fullShare} f) ∗ (∃ f : Vec F S3x256x512 .f32, ((c : Thread nD τ).loc cc0_scratch4) ↦{fullShare} f)
    ∗ (∃ f : Vec F S3x512x256 .f32, ((c : Thread nD τ).loc cc0_scratch5) ↦{fullShare} f) ∗ (∃ f : Vec F S512x256 .f32, ((c : Thread nD τ).loc cc0_scratch6) ↦{fullShare} f))
/-- Its arguments. -/
def Args (c : Dev nD) : sProp 𝕄 :=
  iprop(xIn m c ∗ (winIn m c 0 ∗ woutIn m c 0) ∗ (winIn m c 1 ∗ woutIn m c 1) ∗ (winIn m c 2 ∗ woutIn m c 2))
/-- Its share of the protocol. -/
def Proto (c : Dev nD) : sProp 𝕄 :=
  iprop(BarIn c ∗ (LdTok c 0 ∗ (LdTok c (kWin 0) ∗ LdTok c (kWout 0)) ∗ (LdTok c (kWin 1) ∗ LdTok c (kWout 1)) ∗ (LdTok c (kWin 2) ∗ LdTok c (kWout 2)) ∗ LdTok c 7)
    ∗ (PosIn c 0 ∗ PosIn c 1) ∗ (Fuel c 0 0 ∗ Fuel c 0 1 ∗ Fuel c 0 2) ∗ (Fuel c 1 0 ∗ Fuel c 1 1 ∗ Fuel c 1 2))
/-- The positions of its cells at the end. -/
def PosEnd (c : Dev nD) (t : Fin 2) : sProp 𝕄 :=
  iprop(ps c (fun s => pos c (.dm 0 t s) 3) ∗ ps c (fun s => pos c (.dm 1 t s) 3) ∗ ps c (fun s => pos c (.dm 2 t s) 3) ∗ ps c (fun s => pos c (.dm 3 t s) 3))
def ProtoEnd (c : Dev nD) : sProp 𝕄 :=
  iprop(pos c .bar 1 ∗ (pos c (.ld 0) 1 ∗ (pos c (.ld (kWin 0)) 1 ∗ pos c (.ld (kWout 0)) 1) ∗ (pos c (.ld (kWin 1)) 1 ∗ pos c (.ld (kWout 1)) 1)
    ∗ (pos c (.ld (kWin 2)) 1 ∗ pos c (.ld (kWout 2)) 1) ∗ pos c (.ld 7) 1) ∗ (PosEnd c 0 ∗ PosEnd c 1))
/-- The pieces of the scratch buffers at the end. -/
def Pieces (c : Dev nD) : sProp 𝕄 :=
  iprop(((xAny c 0 c ∗ ps c fun s => xAny c 0 s) ∗ (xAny c 1 c ∗ ps c fun s => xAny c 1 s)) ∗ (pOn c (rset 0) (pv m 2 c) ∗ pOn c (rset 1) (pv m 2 c))
    ∗ ((rAny c 0 c ∗ ps c fun s => rAny c 0 s) ∗ (rAny c 1 c ∗ ps c fun s => rAny c 1 s)) ∗ iOn m c ∗ (wiOn m c 0 ∗ wiOn m c 1 ∗ wiOn m c 2) ∗ (woOn m c 0 ∗ woOn m c 1 ∗ woOn m c 2))

theorem phases_ok (c : Dev nD) (fo : Vec F S512x256 .f32) :
    iprop(St m c 0 ∗ Proto c ∗ Scratch c ∗ Args m c ∗ (((c : Thread nD τ).loc main_v1) ↦{fullShare} fo))
      ⊢ Wp c (seq [start c, layer0 c, layer 1 c, layer 2 c, finish c]) fun _ => iprop(St m c 91 ∗ ProtoEnd c ∗ Pieces m c ∗ Args m c ∗ outPay m c) := by
  unfold Proto Scratch Args
  iintro ⟨HS, ⟨HB, ⟨L0, ⟨Li0, Lo0⟩, ⟨Li1, Lo1⟩, ⟨Li2, Lo2⟩, L7⟩, ⟨PA, PB⟩, ⟨FA0, FA1, FA2⟩, ⟨FB0, FB1, FB2⟩⟩,
    ⟨⟨%fx, Hx⟩, ⟨%fp, Hp⟩, ⟨%fr, Hr⟩, ⟨%f3, H3⟩, ⟨%f4, H4⟩, ⟨%f5, H5⟩, ⟨%f6, H6⟩⟩, ⟨A0, ⟨Ai0, Ao0⟩, ⟨Ai1, Ao1⟩, ⟨Ai2, Ao2⟩⟩, Ho⟩
  iapply (step (start_ok m c f3 f4 f5 fr)) $$ [HS HB L0 Li0 Lo0 Li1 Lo1 Li2 Lo2 Hr H3 H4 H5 A0 Ai0 Ao0 Ai1 Ao1 Ai2 Ao2]
  · unfold WTok
    isplitl [HS]; · iexact HS
    isplitl [L0 A0]; · isplitl [L0] <;> iassumption
    isplitl [Li0 Lo0 Ai0 Ao0]
    · isplitl [Li0 Ai0]; · isplitl [Li0] <;> iassumption
      isplitl [Lo0] <;> iassumption
    isplitl [Li1 Lo1 Ai1 Ao1]
    · isplitl [Li1 Ai1]; · isplitl [Li1] <;> iassumption
      isplitl [Lo1] <;> iassumption
    isplitl [Li2 Lo2 Ai2 Ao2]
    · isplitl [Li2 Ai2]; · isplitl [Li2] <;> iassumption
      isplitl [Lo2] <;> iassumption
    isplitl [HB]; · iexact HB
    isplitl [H3]; · iexact H3
    isplitl [H4]; · iexact H4
    isplitl [H5] <;> iassumption
  iintro ⟨HS, WX, W0, W1, W2, Qb, ⟨Ra, Rb⟩, RA, RB⟩
  ihave Hx := (xAny_split c fx) $$ Hx
  icases Hx with ⟨⟨Xa, XA⟩, Xb, XB⟩
  ihave Hp := (pOn_univ c fp).1 $$ Hp
  icases Hp with ⟨Hpa, Hpb⟩
  iapply (step (layer0_ok m c)) $$ [HS WX W0 Xa XA Xb XB Hpa Hpb RA RB PA PB FA0 FB0]
  · unfold In
    isplitl [HS]; · iexact HS
    isplitl [WX]; · iexact WX
    isplitl [W0]; · iexact W0
    isplitl [Xa XA Hpa RA PA FA0]
    · isplitr [FA0]
      · isplitl [Hpa]; · iexists fp; iexact Hpa
        isplitl [RA]; · iexact RA
        isplitl [XA]; · iexact XA
        isplitl [Xa] <;> iassumption
      iexact FA0
    · isplitr [FB0]
      · isplitl [Hpb]; · iexists fp; iexact Hpb
        isplitl [RB]; · iexact RB
        isplitl [XB]; · iexact XB
        isplitl [Xb] <;> iassumption
      iexact FB0
  iintro ⟨HS, HX, HW0, HA, HB⟩
  iapply (step (layer_ok m c 0 (by decide) 1 rfl)) $$ [HS W1 HA HB FA1 FB1]
  · isplitl [HS]; · iexact HS
    isplitl [W1]; · iexact W1
    isplitl [HA FA1]; · isplitl [HA] <;> iassumption
    isplitl [HB] <;> iassumption
  iintro ⟨HS, HW1, HA, HB⟩
  iapply (step (layer_ok m c 1 (by decide) 2 rfl)) $$ [HS W2 HA HB FA2 FB2]
  · isplitl [HS]; · iexact HS
    isplitl [W2]; · iexact W2
    isplitl [HA FA2]; · isplitl [HA] <;> iassumption
    isplitl [HB] <;> iassumption
  iintro ⟨HS, HW2, HA, HB⟩
  iapply (step (finish_ok m c f6 fo)) $$ [HS HA HB L7 H6 Ho]
  · isplitl [HS]; · iexact HS
    isplitl [HA]; · iexact HA
    isplitl [HB]; · iexact HB
    isplitl [L7]; · iexact L7
    isplitl [H6] <;> iassumption
  iintro ⟨HS, HA, HB, Q7, HO⟩
  iapply done
  unfold XOut WOut End ProtoEnd PosEnd Pieces
  icases HX with ⟨Q0, Hi, A0⟩
  icases HW0 with ⟨Qi0, Qo0, ⟨wi0, wo0⟩, Ai0, Ao0⟩
  icases HW1 with ⟨Qi1, Qo1, ⟨wi1, wo1⟩, Ai1, Ao1⟩
  icases HW2 with ⟨Qi2, Qo2, ⟨wi2, wo2⟩, Ai2, Ao2⟩
  icases HA with ⟨pa, xa, ra, QA⟩
  icases HB with ⟨pb, xb, rb, QB⟩
  isplitl [HS]; · iexact HS
  isplitl [Qb Q0 Qi0 Qo0 Qi1 Qo1 Qi2 Qo2 Q7 QA QB]
  · isplitl [Qb]; · iexact Qb
    isplitr [QA QB]
    · isplitl [Q0]; · iexact Q0
      isplitl [Qi0 Qo0]; · isplitl [Qi0] <;> iassumption
      isplitl [Qi1 Qo1]; · isplitl [Qi1] <;> iassumption
      isplitl [Qi2 Qo2]; · isplitl [Qi2] <;> iassumption
      iexact Q7
    isplitl [QA] <;> iassumption
  isplitl [xa xb pa pb Ra Rb ra rb Hi wi0 wi1 wi2 wo0 wo1 wo2]
  · isplitl [xa xb]; · isplitl [xa] <;> iassumption
    isplitl [pa pb]; · isplitl [pa] <;> iassumption
    isplitl [Ra Rb ra rb]
    · isplitl [Ra ra]; · isplitl [Ra] <;> iassumption
      isplitl [Rb] <;> iassumption
    isplitl [Hi]; · iexact Hi
    isplitl [wi0 wi1 wi2]
    · isplitl [wi0]; · iexact wi0
      isplitl [wi1] <;> iassumption
    isplitl [wo0]; · iexact wo0
    isplitl [wo1] <;> iassumption
  isplitr [HO]
  · isplitl [A0]; · iexact A0
    isplitl [Ai0 Ao0]; · isplitl [Ai0] <;> iassumption
    isplitl [Ai1 Ao1]; · isplitl [Ai1] <;> iassumption
    isplitl [Ai2] <;> iassumption
  iexact HO

end Cert.KernelIdeal.P

end
-- ==== Proof.Fund.lean ====
/- The launch's ghost resources: every cell's record and position, every duty's token with the device that pays it, the credit of what is owed. -/
module

public import proofs.«01_k».proof.Proof.Body

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A device's cells -/

/-- The cells of one device: its barrier's, the transfers' and the local copies'. -/
abbrev CellIx : Type := Unit ⊕ ((Fin 2 × Dev nD × Fin 4) ⊕ Fin 8)

def cellAt : CellIx → SemLoc sig
  | .inl _ => Cell.bar.sem
  | .inr (.inl x) => (Cell.dm x.2.2 x.1 x.2.1).sem
  | .inr (.inr k) => (Cell.ld k).sem
def cellIx (s : SemLoc sig) : CellIx := match kind s with
  | .bar => .inl ()
  | .dm a t p => .inr (.inl (t, p, a))
  | .ld k => .inr (.inr k)
def cellEquiv : CellIx ≃ SemLoc sig where
  toFun := cellAt
  invFun := cellIx
  left_inv x := by
    rcases x with _ | ⟨t, p, a⟩ | k
    · show cellIx Cell.bar.sem = _; unfold cellIx; rw [kind_sem]
    · show cellIx (Cell.dm a t p).sem = _; unfold cellIx; rw [kind_sem]
    · show cellIx (Cell.ld k).sem = _; unfold cellIx; rw [kind_sem]
  right_inv s := by
    rw [← sem_kind s]
    unfold cellIx; rw [kind_sem]
    cases kind s <;> rfl

theorem bigSep_sum' {α β : Type} [Fintype α] [Fintype β] (A : α ⊕ β → sProp 𝕄) :
    bigSep Finset.univ A = iprop((bigSep Finset.univ fun a => A (.inl a)) ∗ bigSep Finset.univ fun b => A (.inr b)) := bigSep_univ_sum A
theorem bigSep4 (A : Fin 4 → sProp 𝕄) : bigSep Finset.univ A = iprop(A 0 ∗ A 1 ∗ A 2 ∗ A 3) := by
  rw [bigSep_univ_eq_bigSepL [0, 1, 2, 3] (by decide) (by decide)]
  simp only [bigSepL_cons_cons, bigSepL_singleton]
  rfl
theorem bigSep8 (A : Fin 8 → sProp 𝕄) : bigSep Finset.univ A = iprop(A 0 ∗ A 1 ∗ A 2 ∗ A 3 ∗ A 4 ∗ A 5 ∗ A 6 ∗ A 7) := by
  rw [bigSep_univ_eq_bigSepL [0, 1, 2, 3, 4, 5, 6, 7] (by decide) (by decide)]
  simp only [bigSepL_cons_cons, bigSepL_singleton]
  rfl
theorem bigSep2 (A : Fin 2 → sProp 𝕄) : bigSep Finset.univ A = iprop(A 0 ∗ A 1) := by
  rw [bigSep_univ_eq_bigSepL [0, 1] (by decide) (by decide)]
  simp only [bigSepL_cons_cons, bigSepL_singleton]
  rfl

/-- The four transfer cells of stream `t` that concern peer `p`. -/
def dm4 (A : Cell → sProp 𝕄) (t : Fin 2) (p : Dev nD) : sProp 𝕄 := iprop(A (.dm 0 t p) ∗ A (.dm 1 t p) ∗ A (.dm 2 t p) ∗ A (.dm 3 t p))
/-- The eight local copies' cells. -/
def ld8 (A : Cell → sProp 𝕄) : sProp 𝕄 :=
  iprop(A (.ld 0) ∗ A (.ld 1) ∗ A (.ld 2) ∗ A (.ld 3) ∗ A (.ld 4) ∗ A (.ld 5) ∗ A (.ld 6) ∗ A (.ld 7))

/-- Something of every cell of a device, cell by cell. -/
theorem cells_split (c : Dev nD) (A : Cell → sProp 𝕄) :
    bigSep Finset.univ (fun s : SemLoc sig => A (kind s))
      = iprop(A .bar ∗ ((dm4 A 0 c ∗ ps c (dm4 A 0)) ∗ (dm4 A 1 c ∗ ps c (dm4 A 1))) ∗ ld8 A) := by
  rw [bigSep_univ_equiv cellEquiv, bigSep_sum', bigSep_sum', bigSep_univ_prod, bigSep2, bigSep_univ_prod, bigSep_univ_prod]
  have h0 : (bigSep Finset.univ fun u : Unit => A (kind (cellEquiv (.inl u)))) = A .bar := by
    rw [bigSep_univ_eq_bigSepL [()] (by decide) (by decide)]
    exact congrArg A (kind_sem .bar)
  have hd : ∀ t p, (bigSep Finset.univ fun a : Fin 4 => A (kind (cellEquiv (.inr (.inl (t, p, a)))))) = dm4 A t p := fun t p => by
    rw [bigSep4]
    show iprop(A (kind (Cell.dm 0 t p).sem) ∗ A (kind (Cell.dm 1 t p).sem) ∗ A (kind (Cell.dm 2 t p).sem) ∗ A (kind (Cell.dm 3 t p).sem)) = _
    rw [kind_sem, kind_sem, kind_sem, kind_sem]; rfl
  have hp : ∀ t, (bigSep Finset.univ fun p : Dev nD => bigSep Finset.univ fun a : Fin 4 => A (kind (cellEquiv (.inr (.inl (t, p, a)))))) = iprop(dm4 A t c ∗ ps c (dm4 A t)) := fun t => by
    rw [bigSep_congr fun p _ => hd t p]; exact ps_dev c _
  have hl : (bigSep Finset.univ fun k : Fin 8 => A (kind (cellEquiv (.inr (.inr k))))) = ld8 A := by
    have hk : ∀ k : Fin 8, A (kind (cellEquiv (.inr (.inr k)))) = A (.ld k) := fun k => congrArg A (kind_sem (.ld k))
    rw [bigSep_congr fun k _ => hk k, bigSep8]; rfl
  rw [h0, hl]
  exact congrArg (fun X => iprop(A .bar ∗ X ∗ ld8 A)) (congrArg₂ (fun X Y => iprop(X ∗ Y)) (hp 0) (hp 1))

/-- The transfer cells of every peer, kind by kind. -/
theorem ps_dm4 (c : Dev nD) (A : Cell → sProp 𝕄) (t : Fin 2) :
    ps c (dm4 A t) = iprop(ps c (fun s => A (.dm 0 t s)) ∗ ps c (fun s => A (.dm 1 t s)) ∗ ps c (fun s => A (.dm 2 t s)) ∗ ps c (fun s => A (.dm 3 t s))) := by
  unfold dm4; rw [ps_sep, ps_sep, ps_sep]

/-! ## The launch element -/

theorem gcell_inj : Function.Injective (fun x : Dev nD × SemLoc sig => (((x.1 : Thread nD τ), x.2) : GSem nD τ sig)) := by
  rintro ⟨c, s⟩ ⟨c', s'⟩ h
  have h1 : c = c' := congrArg (fun g : GSem nD τ sig => g.1.1) h
  have h2 : s = s' := congrArg (fun g : GSem nD τ sig => g.2) h
  rw [h1, h2]
def allCells : Finset (GSem nD τ sig) := Finset.univ.map ⟨_, gcell_inj⟩

/-- The duties device `c` pays: its entry signals; per stream, layer and peer, the sending and the landing of its partial chunk
    and of its rows; its local copies. -/
abbrev TokIx : Type := Fin 7 ⊕ ((Fin 2 × Fin 3 × Fin 7 × Fin 4) ⊕ Fin 8)
def dmTok (c s : Dev nD) (t : Fin 2) (a : Fin 4) : Dev nD × Cell := if a = 0 ∨ a = 2 then (c, .dm a t s) else (s, .dm a t c)
def tokAt (x : Dev nD × TokIx) : (Dev nD × Cell) × ℕ × Dev nD := match x.2 with
  | .inl j => ((peer x.1 j, .bar), 0, x.1)
  | .inr (.inl y) => (dmTok x.1 (peer x.1 y.2.2.1) y.1 y.2.2.2, y.2.1.val, 0)
  | .inr (.inr k) => ((x.1, .ld k), 0, 0)

theorem dmTok_inj {c s c' s' : Dev nD} {t t' : Fin 2} {a a' : Fin 4} (h : dmTok c s t a = dmTok c' s' t' a') : c = c' ∧ s = s' ∧ t = t' ∧ a = a' := by
  unfold dmTok at h
  split at h <;> split at h <;> (obtain ⟨h1, h2⟩ := Prod.mk.inj h; injection h2 with h2 h3 h4)
  · exact ⟨h1, h4, h3, h2⟩
  · subst h2; contradiction
  · subst h2; contradiction
  · exact ⟨h4, h1, h3, h2⟩
theorem dmTok_ne_bar (c s d : Dev nD) (t : Fin 2) (a : Fin 4) : dmTok c s t a ≠ (d, .bar) := by
  unfold dmTok; split <;> (intro h; exact Cell.noConfusion (Prod.mk.inj h).2)
theorem dmTok_ne_ld (c s d : Dev nD) (t : Fin 2) (a : Fin 4) (k : Fin 8) : dmTok c s t a ≠ (d, .ld k) := by
  unfold dmTok; split <;> (intro h; exact Cell.noConfusion (Prod.mk.inj h).2)

theorem tokAt_inj : Function.Injective tokAt := by
  rintro ⟨c, x⟩ ⟨c', x'⟩ h
  have h1 := congrArg (fun z => z.1) h
  have h2 := congrArg (fun z => z.2) h
  rcases x with j | ⟨t, l, j, a⟩ | k <;> rcases x' with j' | ⟨t', l', j', a'⟩ | k'
  · have hc : c = c' := congrArg Prod.snd h2
    subst hc
    have hj : j = j' := peer_inj c _ _ (congrArg Prod.fst h1)
    rw [hj]
  · exact absurd h1.symm (dmTok_ne_bar _ _ _ _ _)
  · exact Cell.noConfusion (congrArg Prod.snd h1)
  · exact absurd h1 (dmTok_ne_bar _ _ _ _ _)
  · obtain ⟨hc, hs, ht, ha⟩ := dmTok_inj h1
    dsimp only at hc hs ht ha
    subst hc ht ha
    have hj : j = j' := peer_inj c _ _ hs
    have hl : l = l' := Fin.ext (congrArg Prod.fst h2)
    rw [hj, hl]
  · exact absurd h1 (dmTok_ne_ld _ _ _ _ _ _)
  · exact Cell.noConfusion (congrArg Prod.snd h1)
  · exact absurd h1.symm (dmTok_ne_ld _ _ _ _ _ _)
  · have hc : c = c' := congrArg Prod.fst h1
    have hk : Cell.ld k = Cell.ld k' := congrArg Prod.snd h1
    injection hk with hk
    rw [hc, hk]

def tokOf (x : Dev nD × TokIx) : GSem nD τ sig × ℕ × Dev nD := (cell (tokAt x).1.1 (tokAt x).1.2, (tokAt x).2)
theorem tokOf_inj : Function.Injective tokOf := by
  intro x y h
  obtain ⟨h1, h2⟩ := Prod.mk.inj h
  obtain ⟨ha, hb⟩ := cell_inj h1
  exact tokAt_inj (Prod.ext (Prod.ext ha hb) h2)
def allToks : Finset (GSem nD τ sig × ℕ × Dev nD) := Finset.univ.map ⟨tokOf, tokOf_inj⟩

/-- The tokens device `c` starts with. -/
def Toks (c : Dev nD) : sProp 𝕄 :=
  iprop(ps c (fun s => dutyTok ER (cell s .bar) 0 c)
    ∗ ((ps c (tokRs c 0 0) ∗ ps c (tokAg c 0 0)) ∗ (ps c (tokRs c 0 1) ∗ ps c (tokAg c 0 1)) ∗ (ps c (tokRs c 0 2) ∗ ps c (tokAg c 0 2)))
    ∗ ((ps c (tokRs c 1 0) ∗ ps c (tokAg c 1 0)) ∗ (ps c (tokRs c 1 1) ∗ ps c (tokAg c 1 1)) ∗ (ps c (tokRs c 1 2) ∗ ps c (tokAg c 1 2)))
    ∗ ld8 fun k => dutyTok ER (cell c k) 0 0)

theorem toks_split : bigSep allToks (fun x => (dutyTok ER x.1 x.2.1 x.2.2 : sProp 𝕄)) ⊢ bigSep Finset.univ fun c : Dev nD => Toks c := by
  unfold allToks
  rw [bigSep_map, bigSep_univ_prod]
  refine bigSep_mono fun c _ => ?_
  rw [bigSep_sum', bigSep_sum', bigSep_univ_prod, bigSep2, bigSep8, bigSep_univ_prod, bigSep_univ_prod, bigSep3, bigSep3]
  have hj : ∀ (t : Fin 2) (l : Fin 3), (bigSep Finset.univ fun y : Fin 7 × Fin 4 =>
      (dutyTok ER (tokOf (c, .inr (.inl (t, l, y)))).1 (tokOf (c, .inr (.inl (t, l, y)))).2.1 (tokOf (c, .inr (.inl (t, l, y)))).2.2 : sProp 𝕄))
        ⊢ iprop(ps c (tokRs c t l.val) ∗ ps c (tokAg c t l.val)) := fun t l => by
    rw [bigSep_univ_prod, ← ps_sep]
    unfold ps
    refine bigSep_mono fun j _ => ?_
    rw [bigSep4]
    unfold tokRs tokAg
    show iprop(dutyTok ER (cell c (.dm 0 t (peer c j))) l.val 0 ∗ dutyTok ER (cell (peer c j) (.dm 1 t c)) l.val 0
      ∗ dutyTok ER (cell c (.dm 2 t (peer c j))) l.val 0 ∗ dutyTok ER (cell (peer c j) (.dm 3 t c)) l.val 0) ⊢ _
    iintro ⟨H0, H1, H2, H3⟩
    isplitl [H0 H1]
    · isplitl [H0] <;> iassumption
    isplitl [H2] <;> iassumption
  have hb : (bigSep Finset.univ fun j : Fin 7 => (dutyTok ER (tokOf (c, .inl j)).1 (tokOf (c, .inl j)).2.1 (tokOf (c, .inl j)).2.2 : sProp 𝕄))
      = ps c (fun s => dutyTok ER (cell s .bar) 0 c) := rfl
  have hk (k : Fin 8) : (dutyTok ER (tokOf (c, .inr (.inr k))).1 (tokOf (c, .inr (.inr k))).2.1 (tokOf (c, .inr (.inr k))).2.2 : sProp 𝕄)
      = dutyTok ER (cell c (.ld k)) 0 0 := rfl
  dsimp only [Function.Embedding.coeFn_mk]
  rw [hb, hk, hk, hk, hk, hk, hk, hk, hk]
  unfold Toks ld8
  show BIBase.Entails (PROP := sProp 𝕄) _ _
  iintro ⟨HB, ⟨⟨A0, A1, A2⟩, ⟨B0, B1, B2⟩⟩, HL⟩
  ihave A0 := (hj 0 0) $$ A0
  ihave A1 := (hj 0 1) $$ A1
  ihave A2 := (hj 0 2) $$ A2
  ihave B0 := (hj 1 0) $$ B0
  ihave B1 := (hj 1 1) $$ B1
  ihave B2 := (hj 1 2) $$ B2
  isplitl [HB]; · iexact HB
  isplitl [A0 A1 A2]
  · isplitl [A0]; · iexact A0
    isplitl [A1]; · iexact A1
    iexact A2
  isplitl [B0 B1 B2]
  · isplitl [B0]; · iexact B0
    isplitl [B1]; · iexact B1
    iexact B2
  iexact HL

/-- What a device starts from: its cells' round states and positions, its tokens. -/
def Start (c : Dev nD) : sProp 𝕄 :=
  iprop((bigSep Finset.univ fun s : SemLoc sig => iprop(roundState ER (Rd m) ((c : Thread nD τ), s) 0 ∗ reached ER ((c : Thread nD τ), s) 0))
    ∗ (bigSep Finset.univ fun s : SemLoc sig => atPos ER ((c : Thread nD τ), s) 0 ∅ 0) ∗ Toks c)

theorem fund_all : BI.own (ER (initOf allCells allToks)) ⊢ (|==> bigSep Finset.univ (Start m) : sProp 𝕄) := by
  have hX (Φ : GSem nD τ sig → sProp 𝕄) : bigSep allCells Φ = bigSep Finset.univ fun c : Dev nD => bigSep Finset.univ fun s : SemLoc sig => Φ ((c : Thread nD τ), s) := by
    unfold allCells; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (toks_split (F := F)) $$ Htok
  unfold Start; simp only [bigSep_sep']
  isplitl [Hst' Hr']
  · isplitl [Hst'] <;> iassumption
  isplitl [Hat'] <;> iassumption

/-! ## The cells opened -/

/-- A device's counters at zero, all of them. -/
def Sems0 (c : Dev nD) : sProp 𝕄 := bigSep Finset.univ fun s : SemLoc sig => semVal ((c : Thread nD τ), s) 0

theorem open_cells (c : Dev nD) :
    iprop(Sems0 c ∗ Start m c) ⊢ |={Set.univ}=> iprop((bigSep Finset.univ fun s : SemLoc sig => known m ((c : Thread nD τ), s))
      ∗ (bigSep Finset.univ fun s : SemLoc sig => atPos ER ((c : Thread nD τ), s) 0 ∅ 0) ∗ Toks c) := by
  unfold Sems0 Start
  iintro ⟨Hv, Hst, Hat, Htok⟩
  imod (show iprop((bigSep Finset.univ fun s : SemLoc sig => semVal ((c : Thread nD τ), s) 0)
        ∗ bigSep Finset.univ fun s : SemLoc sig => iprop(roundState ER (Rd m) ((c : Thread nD τ), s) 0 ∗ reached ER ((c : Thread nD τ), s) 0))
      ⊢ (|={Set.univ}=> bigSep Finset.univ fun s : SemLoc sig => known m ((c : Thread nD τ), s) : sProp 𝕄) from by
        rw [← bigSep_sep']
        refine BIBase.Entails.trans (bigSep_mono fun s _ => ?_) (bigSep_fupd _ _)
        unfold known
        show BIBase.Entails (PROP := sProp 𝕄) _ _
        iintro ⟨Hv, Hs, #Hr⟩
        imod ((Rounds.body_intro ER (Rd m) ((c : Thread nD τ), s)).trans inv_alloc) $$ [Hv Hs] with HI
        · isplitl [Hv] <;> iassumption
        imodintro
        isplitl [HI]; · iexact HI
        iexact Hr) $$ [Hv Hst] with Hinv
  · isplitl [Hv] <;> iassumption
  imodintro
  isplitl [Hinv]; · iexact Hinv
  isplitl [Hat] <;> iassumption

/-- What a device's protocol share is built of: its cells' positions and its tokens. -/
def Linear (c : Dev nD) : sProp 𝕄 := iprop((bigSep Finset.univ fun s : SemLoc sig => atPos ER ((c : Thread nD τ), s) 0 ∅ 0) ∗ Toks c)
def Opened (c : Dev nD) : sProp 𝕄 := iprop(records m ∗ Linear c)

theorem with_persistent {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  iintro ⟨#HR, H⟩
  isplitr
  · iapply (BI.bigSep_of_persistent S R); iexact HR
  · iexact H

theorem open_all : (bigSep Finset.univ fun c : Dev nD => iprop(Sems0 c ∗ Start m c)) ⊢ (|={Set.univ}=> bigSep Finset.univ fun c : Dev nD => Opened m c : sProp 𝕄) := by
  refine (BIBase.Entails.trans (bigSep_mono fun c _ => open_cells m c) (bigSep_fupd _ _)).trans (BI.fupd_mono ?_)
  rw [bigSep_sep']
  refine BIBase.Entails.trans ?_ with_persistent
  unfold records Linear
  rw [bigSep_univ_prod]

end Cert.KernelIdeal.P

end
-- ==== Proof.Credit.lean ====
/- The launch's credit: what every device owes in all, read cell by cell. -/
module

public import proofs.«01_k».proof.Proof.Fund

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What is owed on a cell -/

theorem sTally_at (d : Dev nD) (i : ℕ) (c : Dev nD) (k : Cell) (l : ℕ) :
    sTally d i (cell c k) l = if c = peer d (sJ i) ∧ k = sCell d i ∧ l = sL i then amt k else 0 := by
  unfold sTally
  rw [tallyAt_apply]
  by_cases h : c = peer d (sJ i) ∧ k = sCell d i ∧ l = sL i
  · obtain ⟨h1, h2, h3⟩ := h
    subst h1 h2 h3
    rw [if_pos ⟨rfl, rfl⟩, if_pos ⟨rfl, rfl, rfl⟩]
  · rw [if_neg h, if_neg fun ⟨h1, h2⟩ => h ⟨(cell_inj h1).1, (cell_inj h1).2, h2⟩]

theorem due_at (d : Dev nD) (g : GSem nD τ sig) (l : ℕ) : due d 0 g l = ∑ i ∈ Finset.Ico 0 91, sTally d i g l := by
  unfold due; rw [Finset.sum_apply, Finsupp.finset_sum_apply]

/-- One credit is on the cell, at one place `n`. -/
theorem due_one (d c : Dev nD) (k : Cell) (l n : ℕ) (hn : n < 91) (h1 : c = peer d (sJ n) ∧ k = sCell d n ∧ l = sL n)
    (h : ∀ i, i < 91 → c = peer d (sJ i) → k = sCell d i → l = sL i → i = n) : due d 0 (cell c k) l = amt k := by
  rw [due_at, Finset.sum_eq_single n]
  · rw [sTally_at, if_pos h1]
  · intro i hi hne
    rw [sTally_at, if_neg fun ⟨a, b, e⟩ => hne (h i (Finset.mem_Ico.mp hi).2 a b e)]
  · intro hx; exact absurd (Finset.mem_Ico.mpr ⟨Nat.zero_le _, hn⟩) hx
theorem due_none (d c : Dev nD) (k : Cell) (l : ℕ)
    (h : ∀ i, i < 91 → c = peer d (sJ i) → k = sCell d i → l = sL i → False) : due d 0 (cell c k) l = 0 := by
  rw [due_at]
  refine Finset.sum_eq_zero fun i hi => ?_
  rw [sTally_at, if_neg fun ⟨a, b, e⟩ => h i (Finset.mem_Ico.mp hi).2 a b e]

theorem sCell_bar {d : Dev nD} {i : ℕ} (h : Cell.bar = sCell d i) : i < 7 := by
  unfold sCell at h
  by_contra hi
  rw [if_neg hi] at h
  cases h
theorem sCell_dm {d s : Dev nD} {i : ℕ} {a : Fin 4} {t : Fin 2} (h : Cell.dm a t s = sCell d i) : 7 ≤ i ∧ a = sA i ∧ t = sT i ∧ s = d := by
  unfold sCell at h
  by_cases hi : i < 7
  · rw [if_pos hi] at h; cases h
  · rw [if_neg hi] at h
    injection h with h1 h2 h3
    exact ⟨by omega, h1, h2, h3⟩

theorem due_bar (d c : Dev nD) (l : ℕ) : due d 0 (cell c .bar) l = if d ≠ c ∧ l = 0 then 1 else 0 := by
  by_cases h : d ≠ c ∧ l = 0
  · obtain ⟨h, rfl⟩ := h
    obtain ⟨j, hj⟩ := peer_surj d c (Ne.symm h)
    rw [if_pos ⟨h, rfl⟩]
    have hJ : sJ j.val = j := Fin.ext (Nat.mod_eq_of_lt j.isLt)
    refine due_one d c .bar 0 j.val (by omega) ⟨by rw [hJ, hj], (if_pos j.isLt).symm, by unfold sL; omega⟩ fun i _ h1 h2 _ => ?_
    have h7 := sCell_bar h2
    have h3 : j = sJ i := peer_inj d _ _ (hj.trans h1)
    rw [h3]; exact (Nat.mod_eq_of_lt h7).symm
  · rw [if_neg h]
    refine due_none d c .bar l fun i _ h1 h2 h3 => h ⟨?_, ?_⟩
    · rw [h1]; exact (peer_ne d _).symm
    · have := sCell_bar h2; rw [h3]; unfold sL; omega

theorem due_dm (d c s : Dev nD) (a : Fin 4) (t : Fin 2) (l : ℕ) (n : ℕ → ℕ) (hs : s ≠ c)
    (hb : ∀ l < 3, ∀ j : Fin 7, n l + j.val < 91)
    (hn : ∀ l < 3, ∀ j : Fin 7, sJ (n l + j.val) = j ∧ Cell.dm a t s = sCell s (n l + j.val) ∧ l = sL (n l + j.val))
    (hi : ∀ i, i < 91 → 7 ≤ i → a = sA i → t = sT i → i = n (sL i) + (sJ i).val ∧ sL i < 3) :
    due d 0 (cell c (.dm a t s)) l = if d = s ∧ l < 3 then N else 0 := by
  by_cases h : d = s ∧ l < 3
  · obtain ⟨rfl, hl⟩ := h
    rw [if_pos ⟨rfl, hl⟩]
    obtain ⟨j, hj⟩ := peer_surj d c (Ne.symm hs)
    obtain ⟨h1, h2, h3⟩ := hn l hl j
    refine due_one d c _ l (n l + j.val) (hb l hl j) ⟨by rw [h1, hj], h2, h3⟩ fun i hi9 e1 e2 e3 => ?_
    obtain ⟨e4, e5, e6, -⟩ := sCell_dm e2
    have hJ : j = sJ i := peer_inj d _ _ (hj.trans e1)
    rw [(hi i hi9 e4 e5 e6).1, e3, ← hJ]
  · rw [if_neg h]
    refine due_none d c _ l fun i hi9 e1 e2 e3 => h ?_
    obtain ⟨e4, e5, e6, e7⟩ := sCell_dm e2
    exact ⟨e7.symm, e3 ▸ (hi i hi9 e4 e5 e6).2⟩

theorem due_rs (d c s : Dev nD) (t : Fin 2) (l : ℕ) (hs : s ≠ c) : due d 0 (cell c (.dm 1 t s)) l = if d = s ∧ l < 3 then N else 0 := by
  refine due_dm d c s 1 t l (fun l => nRs l t.val) hs (fun l hl j => ?_) (fun l hl j => ⟨?_, ?_, ?_⟩) fun i h9 h7 ha ht => ⟨?_, ?_⟩
  · have := j.isLt; have := t.isLt; unfold nRs; omega
  · have := j.isLt; exact Fin.ext (by unfold sJ nRs; dsimp only; omega)
  · have := j.isLt; have := t.isLt
    have ht' : sT (nRs l t.val + j.val) = t := Fin.ext (by unfold sT nRs; dsimp only; omega)
    have ha : sA (nRs l t.val + j.val) = 1 := if_pos (by unfold nRs; omega)
    unfold sCell; rw [if_neg (by unfold nRs; omega), ha, ht']
  · have := j.isLt; have := t.isLt; unfold sL nRs; omega
  · have h2 : (i / 7 - 1) % 4 < 2 := by
      by_contra hx; unfold sA at ha; rw [if_neg hx] at ha; exact absurd ha (by decide)
    have h3 : t.val = (i / 7 - 1) % 2 := congrArg Fin.val ht
    unfold nRs sL sJ; dsimp only; omega
  · unfold sL; omega
theorem due_ag (d c s : Dev nD) (t : Fin 2) (l : ℕ) (hs : s ≠ c) : due d 0 (cell c (.dm 3 t s)) l = if d = s ∧ l < 3 then N else 0 := by
  refine due_dm d c s 3 t l (fun l => nAg l t.val) hs (fun l hl j => ?_) (fun l hl j => ⟨?_, ?_, ?_⟩) fun i h9 h7 ha ht => ⟨?_, ?_⟩
  · have := j.isLt; have := t.isLt; unfold nAg; omega
  · have := j.isLt; exact Fin.ext (by unfold sJ nAg; dsimp only; omega)
  · have := j.isLt; have := t.isLt
    have ht' : sT (nAg l t.val + j.val) = t := Fin.ext (by unfold sT nAg; dsimp only; omega)
    have ha : sA (nAg l t.val + j.val) = 3 := if_neg (by unfold nAg; omega)
    unfold sCell; rw [if_neg (by unfold nAg; omega), ha, ht']
  · have := j.isLt; have := t.isLt; unfold sL nAg; omega
  · have h2 : ¬ (i / 7 - 1) % 4 < 2 := by
      intro hx; unfold sA at ha; rw [if_pos hx] at ha; exact absurd ha (by decide)
    have h3 : t.val = (i / 7 - 1) % 2 := congrArg Fin.val ht
    unfold nAg sL sJ; dsimp only; omega
  · unfold sL; omega

/-! ## The credit of a cell -/

abbrev O₀ (c : Dev nD) : CellTallies nD τ sig ℕ := due c 0
/-- The launch's credit on cell `k` of device `c`. -/
def crd0 (c : Dev nD) (k : Cell) : sProp 𝕄 := cred (tallyOn (cell c k) (launchCredit (Pipeline.owing O₀) 0 (cell c k)))

theorem crd0_bar (c : Dev nD) : (crd0 c .bar : sProp 𝕄) = cred (tallyAt (cell c .bar) 0 7) := by
  unfold crd0 tallyAt
  refine congrArg (fun x => cred (tallyOn (cell c .bar) x)) (Finsupp.ext fun l => ?_)
  rw [Pipeline.launchCredit_owing, show (∑ d : Dev nD, O₀ d (cell c .bar) l) = _ from Finset.sum_congr rfl fun d _ => due_bar d c l, Finsupp.single_apply]
  by_cases h : l = 0
  · subst h
    rw [if_pos rfl]
    revert c; decide
  · rw [if_neg (Ne.symm h)]
    exact Finset.sum_eq_zero fun d _ => if_neg fun hx => h hx.2

theorem crd0_three (c : Dev nD) (k : Cell) (s : Dev nD)
    (h : ∀ d l, due d 0 (cell c k) l = if d = s ∧ l < 3 then N else 0) :
    (crd0 c k : sProp 𝕄) ⊢ iprop(cred (tallyAt (cell c k) 0 N) ∗ cred (tallyAt (cell c k) 1 N) ∗ cred (tallyAt (cell c k) 2 N)) := by
  have e : tallyOn (cell c k) (launchCredit (Pipeline.owing O₀) 0 (cell c k))
      = (tallyAt (cell c k) 0 N + (tallyAt (cell c k) 1 N + tallyAt (cell c k) 2 N) : CellTallies nD τ sig ℕ) := by
    unfold tallyAt
    rw [← tallyOn_add, ← tallyOn_add]
    refine congrArg (tallyOn (cell c k)) (Finsupp.ext fun l => ?_)
    rw [Pipeline.launchCredit_owing, show (∑ d : Dev nD, O₀ d (cell c k) l) = _ from Finset.sum_congr rfl fun d _ => h d l, Finsupp.add_apply, Finsupp.add_apply,
      Finsupp.single_apply, Finsupp.single_apply, Finsupp.single_apply]
    rw [Finset.sum_eq_single s (fun d _ hd => if_neg fun hx => hd hx.1) fun hx => absurd (Finset.mem_univ _) hx]
    rcases l with _ | _ | _ | l
    · rw [if_pos ⟨rfl, by decide⟩]; rfl
    · rw [if_pos ⟨rfl, by decide⟩]; rfl
    · rw [if_pos ⟨rfl, by decide⟩]; rfl
    · rw [if_neg fun hx => by omega, if_neg (by omega), if_neg (by omega), if_neg (by omega)]; rfl
  unfold crd0
  rw [e]
  iintro H
  ihave H := (cred_add _ _).1 $$ H
  icases H with ⟨H0, H⟩
  ihave H := (cred_add _ _).1 $$ H
  icases H with ⟨H1, H2⟩
  isplitl [H0]; · iexact H0
  isplitl [H1] <;> iassumption

/-- A stream's credit, layer by layer. -/
def Creds (c : Dev nD) (a : Fin 4) (t : Fin 2) : sProp 𝕄 :=
  iprop(ps c (fun s => crd c (.dm a t s) 0) ∗ ps c (fun s => crd c (.dm a t s) 1) ∗ ps c (fun s => crd c (.dm a t s) 2))

theorem creds_eq (c : Dev nD) (a : Fin 4) (t : Fin 2) :
    (Creds c a t : sProp 𝕄) = ps c (fun s => iprop(crd c (.dm a t s) 0 ∗ crd c (.dm a t s) 1 ∗ crd c (.dm a t s) 2)) := by
  rw [ps_sep, ps_sep]; rfl

theorem creds_stream (c : Dev nD) (t : Fin 2) : (ps c (dm4 (crd0 c) t) : sProp 𝕄) ⊢ iprop(Creds c 1 t ∗ Creds c 3 t) := by
  rw [creds_eq, creds_eq]
  iintro H
  ihave H := (Entails.of_eq (ps_dm4 c (crd0 c) t)) $$ H
  icases H with ⟨-, H1, -, H3⟩
  have g1 : ps c (fun s => crd0 c (.dm 1 t s)) ⊢ (ps c (fun s => iprop(crd c (.dm 1 t s) 0 ∗ crd c (.dm 1 t s) 1 ∗ crd c (.dm 1 t s) 2)) : sProp 𝕄) :=
    ps_mono c fun s hs => crd0_three c (.dm 1 t s) s fun d l => due_rs d c s t l hs
  have g3 : ps c (fun s => crd0 c (.dm 3 t s)) ⊢ (ps c (fun s => iprop(crd c (.dm 3 t s) 0 ∗ crd c (.dm 3 t s) 1 ∗ crd c (.dm 3 t s) 2)) : sProp 𝕄) :=
    ps_mono c fun s hs => crd0_three c (.dm 3 t s) s fun d l => due_ag d c s t l hs
  ihave H1 := g1 $$ H1
  ihave H3 := g3 $$ H3
  isplitl [H1] <;> iassumption

theorem creds (c : Dev nD) :
    (Pipeline.launchCred O₀ c : sProp 𝕄) ⊢ iprop(cred (tallyAt (cell c .bar) 0 7) ∗ (Creds c 1 0 ∗ Creds c 3 0) ∗ (Creds c 1 1 ∗ Creds c 3 1)) := by
  have e : (Pipeline.launchCred O₀ c : sProp 𝕄) = bigSep Finset.univ fun s : SemLoc sig => crd0 c (kind s) := by
    unfold Pipeline.launchCred crd0 cell
    exact bigSep_congr fun s _ => by rw [sem_kind]
  rw [e, cells_split c, crd0_bar]
  iintro ⟨HB, ⟨⟨-, H0⟩, ⟨-, H1⟩⟩, -⟩
  ihave H0 := (creds_stream c 0) $$ H0
  ihave H1 := (creds_stream c 1) $$ H1
  isplitl [HB]; · iexact HB
  isplitl [H0] <;> iassumption

end Cert.KernelIdeal.P

end
-- ==== Proof.Ends.lean ====
/- The two ends of a device's run: its share of the protocol at the launch; its counters and its scratch buffers given back. -/
module

public import proofs.«01_k».proof.Proof.Credit

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The counters -/

abbrev osem (q : Fin 72) : SemLoc sig := .dma q

theorem dma_inj : Function.Injective (fun q : Fin 72 => (SemLoc.dma q : SemLoc sig)) := fun a b h => by injection h

theorem sems0_eq (c : Dev nD) :
    (Sems0 c : sProp 𝕄) = iprop(unscopedSems0 c ∗ Pipeline.ownSems0 (Ix := ℕ) (Name := ℕ) (U := UU) (Lvl := ℕ) (Val := Elt F) (τ := τ) osem c) := by
  have hu : (unscopedSems0 c : sProp 𝕄) = semVal (cell c .bar) 0 := by
    unfold unscopedSems0; rw [bigSep_eq_bigSepL_of_eq [SemLoc.reg barSem] (by decide) (by decide)]; rfl
  have he : Finset.univ.erase (SemLoc.reg barSem : SemLoc sig) = Finset.univ.map ⟨_, dma_inj⟩ := by
    ext s
    simp only [Finset.mem_erase, Finset.mem_univ, and_true, Finset.mem_map, true_and, Function.Embedding.coeFn_mk]
    cases s with
    | reg s =>
      have h : s = barSem := Subsingleton.elim (α := Fin 1) _ _
      exact ⟨fun hx => absurd (congrArg SemLoc.reg h) hx, fun ⟨_, hx⟩ => by cases hx⟩
    | dma q => exact ⟨fun _ => ⟨q, rfl⟩, fun _ hx => by cases hx⟩
  rw [hu]
  unfold Sems0 Pipeline.ownSems0
  rw [bigSep_univ_at _ (SemLoc.reg barSem), he, bigSep_map]
  rfl

/-! ## A device's share of the protocol -/

def pos0 (c : Dev nD) (k : Cell) : sProp 𝕄 := pos c k 0
/-- The positions of the cells no transfer uses: a device sends nothing to itself. -/
def SelfPos (c : Dev nD) : sProp 𝕄 := iprop(dm4 (pos0 c) 0 c ∗ dm4 (pos0 c) 1 c)

theorem fuel_intro (c : Dev nD) (t : Fin 2) (l : ℕ) :
    iprop((ps c (tokRs c t l) ∗ ps c (tokAg c t l)) ∗ (ps c (fun s => crd c (.dm 1 t s) l) ∗ ps c (fun s => crd c (.dm 3 t s) l))) ⊢ (Fuel c t l : sProp 𝕄) := by
  unfold Fuel
  iintro ⟨⟨H1, H2⟩, ⟨H3, H4⟩⟩
  isplitl [H3]; · iexact H3
  isplitl [H4]; · iexact H4
  isplitl [H1] <;> iassumption

theorem fuel_stream (c : Dev nD) (t : Fin 2) :
    iprop(((ps c (tokRs c t 0) ∗ ps c (tokAg c t 0)) ∗ (ps c (tokRs c t 1) ∗ ps c (tokAg c t 1)) ∗ (ps c (tokRs c t 2) ∗ ps c (tokAg c t 2)))
        ∗ (Creds c 1 t ∗ Creds c 3 t)) ⊢ (iprop(Fuel c t 0 ∗ Fuel c t 1 ∗ Fuel c t 2) : sProp 𝕄) := by
  unfold Creds
  iintro ⟨⟨T0, T1, T2⟩, ⟨A0, A1, A2⟩, ⟨B0, B1, B2⟩⟩
  isplitl [T0 A0 B0]
  · iapply (fuel_intro c t 0)
    isplitl [T0]; · iexact T0
    isplitl [A0] <;> iassumption
  isplitl [T1 A1 B1]
  · iapply (fuel_intro c t 1)
    isplitl [T1]; · iexact T1
    isplitl [A1] <;> iassumption
  · iapply (fuel_intro c t 2)
    isplitl [T2]; · iexact T2
    isplitl [A2] <;> iassumption

theorem ldtok_intro (c : Dev nD) (k : Fin 8) : iprop(dutyTok ER (cell c (.ld k)) 0 0 ∗ pos0 c (.ld k)) ⊢ (LdTok c k : sProp 𝕄) := .rfl

theorem ldtok_all (c : Dev nD) :
    iprop(ld8 (fun k => dutyTok ER (cell c k) 0 0) ∗ ld8 (pos0 c))
      ⊢ (iprop(LdTok c 0 ∗ (LdTok c (kWin 0) ∗ LdTok c (kWout 0)) ∗ (LdTok c (kWin 1) ∗ LdTok c (kWout 1)) ∗ (LdTok c (kWin 2) ∗ LdTok c (kWout 2)) ∗ LdTok c 7) : sProp 𝕄) := by
  unfold ld8
  iintro ⟨⟨T0, T1, T2, T3, T4, T5, T6, T7⟩, ⟨P0, P1, P2, P3, P4, P5, P6, P7⟩⟩
  isplitl [T0 P0]
  · iapply (ldtok_intro c 0); isplitl [T0] <;> iassumption
  isplitl [T1 P1 T2 P2]
  · isplitl [T1 P1]
    · iapply (ldtok_intro c 1); isplitl [T1] <;> iassumption
    · iapply (ldtok_intro c 2); isplitl [T2] <;> iassumption
  isplitl [T3 P3 T4 P4]
  · isplitl [T3 P3]
    · iapply (ldtok_intro c 3); isplitl [T3] <;> iassumption
    · iapply (ldtok_intro c 4); isplitl [T4] <;> iassumption
  isplitl [T5 P5 T6 P6]
  · isplitl [T5 P5]
    · iapply (ldtok_intro c 5); isplitl [T5] <;> iassumption
    · iapply (ldtok_intro c 6); isplitl [T6] <;> iassumption
  · iapply (ldtok_intro c 7); isplitl [T7] <;> iassumption

theorem posin_intro (c : Dev nD) (t : Fin 2) : ps c (dm4 (pos0 c) t) ⊢ (PosIn c t : sProp 𝕄) := by
  rw [ps_dm4]; exact .rfl

theorem proto_intro (c : Dev nD) :
    iprop(Linear c ∗ Pipeline.launchCred O₀ c) ⊢ (iprop(Proto c ∗ SelfPos c) : sProp 𝕄) := by
  have hp : (bigSep Finset.univ fun s : SemLoc sig => (atPos ER ((c : Thread nD τ), s) 0 ∅ 0 : sProp 𝕄)) = bigSep Finset.univ fun s : SemLoc sig => pos0 c (kind s) :=
    bigSep_congr fun s _ => by unfold pos0 pos cell; rw [sem_kind]
  unfold Linear Toks
  rw [hp, cells_split c]
  iintro ⟨⟨⟨PB, ⟨⟨S0, P0⟩, ⟨S1, P1⟩⟩, PL⟩, ⟨TB, T0, T1, TL⟩⟩, HC⟩
  ihave HC := (creds c) $$ HC
  icases HC with ⟨CB, C0, C1⟩
  unfold Proto BarIn SelfPos
  isplitr [S0 S1]
  · isplitl [PB TB CB]
    · isplitl [TB]; · iexact TB
      isplitl [CB]; · iexact CB
      unfold pos0; iexact PB
    isplitl [PL TL]
    · iapply (ldtok_all c)
      isplitl [TL] <;> iassumption
    isplitl [P0 P1]
    · isplitl [P0]
      · iapply (posin_intro c 0); iexact P0
      · iapply (posin_intro c 1); iexact P1
    isplitl [T0 C0]
    · iapply (fuel_stream c 0)
      isplitl [T0] <;> iassumption
    · iapply (fuel_stream c 1)
      isplitl [T1] <;> iassumption
  · isplitl [S0] <;> iassumption

/-! ## The cells closed -/

/-- The round a cell is at after the run. -/
def endR (c : Dev nD) : Cell → ℕ
  | .bar => 1
  | .dm _ _ p => if p = c then 0 else 3
  | .ld _ => 1
theorem endR_duties (c : Dev nD) (k : Cell) (r : ℕ) (h : endR c k ≤ r) : duties c k r = ∅ := by
  cases k with
  | bar => exact if_neg (by have h : 1 ≤ r := h; omega)
  | dm a t p =>
    refine if_neg fun ⟨h1, h2⟩ => ?_
    unfold endR at h; dsimp only at h; rw [if_neg h2] at h; omega
  | ld k => exact if_neg (by have h : 1 ≤ r := h; omega)

def posE (c : Dev nD) (k : Cell) : sProp 𝕄 := pos c k (endR c k)

theorem posE_self (c : Dev nD) (t : Fin 2) : dm4 (pos0 c) t c ⊢ (dm4 (posE c) t c : sProp 𝕄) := by
  have h : ∀ a, (posE c (.dm a t c) : sProp 𝕄) = pos0 c (.dm a t c) := fun a => by exact congrArg (pos c (.dm a t c)) (if_pos rfl)
  unfold dm4; rw [h, h, h, h]
theorem posE_ps (c : Dev nD) (t : Fin 2) : PosEnd c t ⊢ (ps c (dm4 (posE c) t) : sProp 𝕄) := by
  have h : ∀ a, ps c (fun s => pos c (.dm a t s) 3) ⊢ (ps c (fun s => posE c (.dm a t s)) : sProp 𝕄) := fun a => ps_mono c fun s hs => by
    unfold posE endR; dsimp only; rw [if_neg hs]
  rw [ps_dm4]; unfold PosEnd
  iintro ⟨H0, H1, H2, H3⟩
  ihave H0 := (h 0) $$ H0
  ihave H1 := (h 1) $$ H1
  ihave H2 := (h 2) $$ H2
  ihave H3 := (h 3) $$ H3
  isplitl [H0]; · iexact H0
  isplitl [H1]; · iexact H1
  isplitl [H2] <;> iassumption

theorem pos_end (c : Dev nD) :
    iprop(ProtoEnd c ∗ SelfPos c) ⊢ (bigSep Finset.univ fun s : SemLoc sig => posE c (kind s) : sProp 𝕄) := by
  rw [cells_split c]
  have hl : ∀ k, pos c (.ld k) 1 ⊢ (posE c (.ld k) : sProp 𝕄) := fun k => .rfl
  have hb : pos c .bar 1 ⊢ (posE c .bar : sProp 𝕄) := .rfl
  unfold ProtoEnd SelfPos ld8
  iintro ⟨⟨B, ⟨L0, ⟨L1, L2⟩, ⟨L3, L4⟩, ⟨L5, L6⟩, L7⟩, ⟨E0, E1⟩⟩, ⟨S0, S1⟩⟩
  ihave S0 := (posE_self c 0) $$ S0
  ihave S1 := (posE_self c 1) $$ S1
  ihave E0 := (posE_ps c 0) $$ E0
  ihave E1 := (posE_ps c 1) $$ E1
  isplitl [B]
  · iapply hb; iexact B
  isplitl [S0 S1 E0 E1]
  · isplitl [S0 E0]
    · isplitl [S0] <;> iassumption
    · isplitl [S1] <;> iassumption
  isplitl [L0]
  · iapply (hl 0); iexact L0
  isplitl [L1]
  · iapply (hl 1); iexact L1
  isplitl [L2]
  · iapply (hl 2); iexact L2
  isplitl [L3]
  · iapply (hl 3); iexact L3
  isplitl [L4]
  · iapply (hl 4); iexact L4
  isplitl [L5]
  · iapply (hl 5); iexact L5
  isplitl [L6]
  · iapply (hl 6); iexact L6
  iapply (hl 7); iexact L7

theorem close_cell (c : Dev nD) (k : Cell) : iprop(records m ∗ posE c k) ⊢ |={Set.univ}=> (semVal (cell c k) 0 : sProp 𝕄) := by
  unfold posE
  iintro ⟨#HR, HP⟩
  ihave HK := (records_get m c k) $$ HR
  unfold known
  icases HK with ⟨⟨%κ, HI⟩, -⟩
  iapply (Rounds.cell_close ER (Rd m) (κ := κ) (Es := Set.univ) (Set.mem_univ _) (fun h => h) (R := endR c k)
    fun r hr => (Rd_duties m c k r).trans (endR_duties c k r hr))
  isplitl [HI] <;> iassumption

theorem close_all (c : Dev nD) : iprop(records m ∗ ProtoEnd c ∗ SelfPos c) ⊢ |={Set.univ}=> (Sems0 c : sProp 𝕄) := by
  have h : (bigSep Finset.univ fun s : SemLoc sig => iprop(records m ∗ posE c (kind s))) ⊢ (|={Set.univ}=> Sems0 c : sProp 𝕄) := by
    unfold Sems0
    refine BIBase.Entails.trans (bigSep_mono fun s _ => ?_) (bigSep_fupd _ _)
    refine BIBase.Entails.trans (close_cell m c (kind s)) (Entails.of_eq ?_)
    unfold cell; rw [sem_kind]
  iintro ⟨HR, HP⟩
  ihave HP := (pos_end c) $$ HP
  iapply h
  iapply with_persistent
  isplitl [HR] <;> iassumption

/-! ## The scratch buffers put together again -/

theorem whole_of_chunks (c : Dev nD) (b : Ref sig .tc) (A : Fin 2 → Dev nD → sProp 𝕄) (K : Fin 2 × Dev nD → Finset (Idx ((c : Thread nD τ).loc b)))
    (f₀ : Buf (Elt F) ((c : Thread nD τ).loc b))
    (hA : ∀ t s, A t s ⊢ (iprop(∃ f, ((c : Thread nD τ).loc b) ↦[K (t, s)]{fullShare} f) : sProp 𝕄))
    (hd : ∀ x y, x ≠ y → Disjoint (K x) (K y)) (hu : Finset.univ.biUnion K = Finset.univ) :
    iprop((A 0 c ∗ ps c (A 0)) ∗ (A 1 c ∗ ps c (A 1))) ⊢ (iprop(∃ f, ((c : Thread nD τ).loc b) ↦{fullShare} f) : sProp 𝕄) := by
  rw [← ps_dev, ← ps_dev, ← bigSep2 fun t => bigSep Finset.univ (A t), ← bigSep_univ_prod fun x : Fin 2 × Dev nD => A x.1 x.2]
  refine BIBase.Entails.trans (bigSep_mono fun x _ => hA x.1 x.2) ?_
  iintro H
  ihave H := (BI.bigSep_exists_pi Finset.univ fun (x : Fin 2 × Dev nD) (f : Buf (Elt F) ((c : Thread nD τ).loc b)) => (((c : Thread nD τ).loc b) ↦[K (x.1, x.2)]{fullShare} f : sProp 𝕄)) $$ H
  icases H with ⟨%fs, H⟩
  ihave H := (pointsTo_biUnion_join Finset.univ K fs f₀ fun x _ y _ h => hd x y h) $$ H
  icases H with ⟨%g, -, H⟩
  iexists g
  rw [hu]
  iexact H

theorem x_whole (c : Dev nD) (f₀ : Arr F) :
    iprop((xAny c 0 c ∗ ps c fun s => xAny c 0 s) ∗ (xAny c 1 c ∗ ps c fun s => xAny c 1 s)) ⊢ (iprop(∃ f : Arr F, ((c : Thread nD τ).loc cc0_scratch0) ↦{fullShare} f) : sProp 𝕄) :=
  whole_of_chunks c cc0_scratch0 (fun t s => xAny c t s) (fun x => cset x.1 x.2) f₀ (fun t s => .rfl)
    (fun x y h => cset_disj x.1 y.1 x.2 y.2 h) cset_cover_all
theorem r_whole (c : Dev nD) (f₀ : Arr F) :
    iprop((rAny c 0 c ∗ ps c fun s => rAny c 0 s) ∗ (rAny c 1 c ∗ ps c fun s => rAny c 1 s)) ⊢ (iprop(∃ f : Arr F, ((c : Thread nD τ).loc cc0_scratch2) ↦{fullShare} f) : sProp 𝕄) :=
  whole_of_chunks c cc0_scratch2 (fun t s => rAny c t s) (fun x => cset x.1 x.2) f₀ (fun t s => .rfl)
    (fun x y h => cset_disj x.1 y.1 x.2 y.2 h) cset_cover_all

theorem scratch_back (c : Dev nD) :
    iprop(Pieces m c ∗ (((c : Thread nD τ).loc cc0_scratch6) ↦{fullShare} (yv m))) ⊢ (Pipeline.scopedRest (cfg0.spec) c : sProp 𝕄) := by
  rw [scopedRest0_eq]
  have hi : iprop(wiOn m c 0 ∗ wiOn m c 1 ∗ wiOn m c 2) ⊢ (((c : Thread nD τ).loc cc0_scratch4) ↦{fullShare} (winAll m c) : sProp 𝕄) := by rw [wi_slots]; exact .rfl
  have ho : iprop(woOn m c 0 ∗ woOn m c 1 ∗ woOn m c 2) ⊢ (((c : Thread nD τ).loc cc0_scratch5) ↦{fullShare} (woutAll m c) : sProp 𝕄) := by rw [wo_slots]; exact .rfl
  have hp : iprop(pOn c (rset 0) (pv m 2 c) ∗ pOn c (rset 1) (pv m 2 c)) ⊢ (((c : Thread nD τ).loc cc0_scratch1) ↦{fullShare} (pv m 2 c) : sProp 𝕄) := (pOn_univ c (pv m 2 c)).2
  have h3 : iOn m c ⊢ (((c : Thread nD τ).loc cc0_scratch3) ↦{fullShare} (xArg m c) : sProp 𝕄) := .rfl
  unfold Pieces
  iintro ⟨⟨HX, HP, HR, HI, HWI, HWO⟩, HO⟩
  ihave HX := (x_whole c (xv m 0)) $$ HX
  ihave HP := hp $$ HP
  ihave HI := h3 $$ HI
  ihave HR := (r_whole c (xv m 0)) $$ HR
  ihave HWI := hi $$ HWI
  ihave HWO := ho $$ HWO
  isplitl [HX]; · iexact HX
  isplitl [HP]
  · iexists (pv m 2 c); iexact HP
  isplitl [HR]; · iexact HR
  isplitl [HI]
  · iexists (xArg m c); iexact HI
  isplitl [HWI]
  · iexists (winAll m c); iexact HWI
  isplitl [HWO]
  · iexists (woutAll m c); iexact HWO
  iexists (yv m); iexact HO

end Cert.KernelIdeal.P

end
-- ==== Proof.Launch.lean ====
/- The launch: the kernel on all devices runs to its end, the result array at its value, the arguments unchanged, every counter at zero. -/
module

public import proofs.«01_k».proof.Proof.Ends
public import proofs.«01_k».proof.Proof.Gen.KernelIdeal.Launch
public import Idealize.ShloMosaic.Lib.Quiescent
public import Idealize.ShloMosaic.Lib.Pipeline.CollectiveSegs

@[expose] public section

noncomputable section

namespace Cert.KernelIdeal.P

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

open Idealize.ShloMosaic.Pipeline (Dat BodyObligation)

/-! ## The arrays -/

/-- A device's arrays at the launch, and after the run. -/
def Vin (c : Dev nD) (b : Ref sig .tc) : Buf (Elt F) ((c : Thread nD τ).loc b) := m ((c : Thread nD τ).loc b)
def Vout (c : Dev nD) : (b : Ref sig .tc) → Buf (Elt F) ((c : Thread nD τ).loc b) :=
  Function.update (Vin m c) main_v1 (yv m : Vec F S512x256 .f32)

theorem winIn_eq (c : Dev nD) : iprop(xIn m c ∗ (winIn m c 0 ∗ woutIn m c 0) ∗ (winIn m c 1 ∗ woutIn m c 1) ∗ (winIn m c 2 ∗ woutIn m c 2))
    = (iprop((((c : Thread nD τ).loc main_arg0) ↦{fullShare} Vin m c main_arg0)
      ∗ ((((c : Thread nD τ).loc main_arg1) ↦{fullShare} Vin m c main_arg1) ∗ (((c : Thread nD τ).loc main_arg2) ↦{fullShare} Vin m c main_arg2))
      ∗ ((((c : Thread nD τ).loc main_arg3) ↦{fullShare} Vin m c main_arg3) ∗ (((c : Thread nD τ).loc main_arg4) ↦{fullShare} Vin m c main_arg4))
      ∗ ((((c : Thread nD τ).loc main_arg5) ↦{fullShare} Vin m c main_arg5) ∗ (((c : Thread nD τ).loc main_arg6) ↦{fullShare} Vin m c main_arg6))) : sProp 𝕄) := by
  unfold winIn woutIn
  rw [show (aWin 0).view.set = Finset.univ from View.set_whole _, show (aWin 1).view.set = Finset.univ from View.set_whole _,
    show (aWin 2).view.set = Finset.univ from View.set_whole _, show (aWout 0).view.set = Finset.univ from View.set_whole _,
    show (aWout 1).view.set = Finset.univ from View.set_whole _, show (aWout 2).view.set = Finset.univ from View.set_whole _]
  rfl

theorem args_in (c : Dev nD) : (Pipeline.unscopedRest (cfg0.spec) c (Vin m c) : sProp 𝕄) ⊢ iprop(Args m c ∗ ∃ fo : Vec F S512x256 .f32, ((c : Thread nD τ).loc main_v1) ↦{fullShare} fo) := by
  rw [unscopedRest0_eq]; unfold Args; rw [winIn_eq]
  iintro ⟨H0, H1, H2, H3, H4, H5, H6, HO⟩
  isplitr [HO]
  · isplitl [H0]; · iexact H0
    isplitl [H1 H2]
    · isplitl [H1] <;> iassumption
    isplitl [H3 H4]
    · isplitl [H3] <;> iassumption
    isplitl [H5] <;> iassumption
  · iexists (Vin m c main_v1); iexact HO

theorem args_out (c : Dev nD) : iprop(Args m c ∗ (((c : Thread nD τ).loc main_v1) ↦{fullShare} (yv m))) ⊢ (Pipeline.unscopedRest (cfg0.spec) c (Vout m c) : sProp 𝕄) := by
  have h : ∀ b : Ref sig .tc, b ≠ main_v1 → Vout m c b = Vin m c b := fun b hb => Function.update_of_ne hb _ _
  have hv : Vout m c main_v1 = yv m := Function.update_self _ _ _
  rw [unscopedRest0_eq, h main_arg0 (by decide), h main_arg1 (by decide), h main_arg2 (by decide), h main_arg3 (by decide), h main_arg4 (by decide),
    h main_arg5 (by decide), h main_arg6 (by decide), hv]
  unfold Args; rw [winIn_eq]
  iintro ⟨⟨H0, ⟨H1, H2⟩, ⟨H3, H4⟩, ⟨H5, H6⟩⟩, HO⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HO

/-! ## The body -/

/-- What a device's body starts from, -/
def Start0 (c : Dev nD) : sProp 𝕄 :=
  iprop(records m ∗ levAts L lv ∗ (Proto c ∗ SelfPos c) ∗ Args m c ∗ ∃ fo : Vec F S512x256 .f32, ((c : Thread nD τ).loc main_v1) ↦{fullShare} fo)
def Φ₀ (c : Dev nD) : sProp 𝕄 := iprop(Start0 m c ∗ Pipeline.scopedRest (cfg0.spec) c)
/-- and what it ends with. -/
def Φ₁ (c : Dev nD) : sProp 𝕄 :=
  iprop(Sems0 c ∗ Pipeline.scopedRest (cfg0.spec) c ∗ Pipeline.unscopedRest (cfg0.spec) c (Vout m c))

theorem scratch_in (c : Dev nD) : (Pipeline.scopedRest (cfg0.spec) c : sProp 𝕄) ⊢ Scratch c := by
  rw [scopedRest0_eq]; exact .rfl

theorem after_ok (c : Dev nD) :
    iprop((St m c 91 ∗ ProtoEnd c ∗ Pieces m c ∗ Args m c ∗ outPay m c) ∗ SelfPos c) ⊢ |={Set.univ}=> (iprop(Φ₁ m c ∗ ∃ W, owes (c : Thread nD τ) 0 W) : sProp 𝕄) := by
  unfold St outPay Φ₁
  rw [due_end]
  iintro ⟨⟨⟨HR, -, HO⟩, HE, HP, HA, HV, HY⟩, HS⟩
  imod (close_all m c) $$ [HR HE HS] with HZ
  · isplitl [HR]; · iexact HR
    isplitl [HE] <;> iassumption
  imodintro
  isplitr [HO]
  · isplitl [HZ]; · iexact HZ
    isplitl [HP HY]
    · iapply (scratch_back m c); isplitl [HP] <;> iassumption
    · iapply (args_out m c); isplitl [HA] <;> iassumption
  · iexact HO

theorem wp_dev (c : Dev nD) {α : Type} (k : Dev nD → Prog (TpuEff nD τ sig (Elt F) Λ₀ .tc) α) (Q : α → sProp 𝕄) :
    Wp c ((Prog.lift .deviceId).bind k) Q = Wp c (k c) Q := by
  show Wp c (Prog.lift .deviceId >>= k) Q = _
  unfold Wp
  simp only [Prog.lift, Prog.bind_op, Prog.bind_ret, wp_deviceId]

theorem wp_post {c : Dev nD} {p : PG F} {P Q Q' : sProp 𝕄} (hp : P ⊢ Wp c p fun _ => Q) (h : Q ⊢ |={Set.univ}=> Q') :
    P ⊢ Wp c p fun _ => Q' := by
  unfold Wp at *
  exact BIBase.Entails.trans hp (BIBase.Entails.trans (wp_mono _ _ _ fun _ => h) (wp_fupd _ _ _ _ _))

theorem body_ok (c : Dev nD) :
    iprop(Φ₀ m c ∗ ∃ W, owes (c : Thread nD τ) (O₀ c) W) ⊢ (Wp c (body (F := F)) fun _ => iprop(Φ₁ m c ∗ ∃ W, owes (c : Thread nD τ) 0 W) : sProp 𝕄) := by
  have h : iprop(Φ₀ m c ∗ ∃ W, owes (c : Thread nD τ) (O₀ c) W)
      ⊢ (Wp c (seq (F := F) [start c, layer0 c, layer 1 c, layer 2 c, finish c]) fun _ => iprop((St m c 91 ∗ ProtoEnd c ∗ Pieces m c ∗ Args m c ∗ outPay m c) ∗ SelfPos c) : sProp 𝕄) := by
    unfold Φ₀ Start0
    iintro ⟨⟨⟨HR, HL, ⟨HP, HS⟩, HA, ⟨%fo, HV⟩⟩, HC⟩, HO⟩
    ihave HC := (scratch_in c) $$ HC
    iapply (wp_frame' (phases_ok m c fo))
    isplitr [HS]
    · isplitl [HR HL HO]
      · unfold St
        isplitl [HR]; · iexact HR
        isplitl [HL]; · iexact HL
        iexact HO
      isplitl [HP]; · iexact HP
      isplitl [HC]; · iexact HC
      isplitl [HA] <;> iassumption
    · iexact HS
  unfold body
  rw [wp_dev]
  have h2 := wp_post h (after_ok m c)
  clear h
  beta_reduce
  generalize iprop(Φ₀ m c ∗ ∃ W, owes (c : Thread nD τ) (O₀ c) W) = A at h2 ⊢
  generalize iprop(Φ₁ m c ∗ ∃ W, owes (c : Thread nD τ) 0 W) = B at h2 ⊢
  generalize seq (F := F) [start c, layer0 c, layer 1 c, layer 2 c, finish c] = p at h2 ⊢
  exact h2

/-! ## The run -/

def dats (_ : Fin 1) (c : Dev nD) : Dat τ (Elt F) ℕ ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owes_in (c : Dev nD) : ((dats m 0 c).owesAt 0 (t0_0 : Fin cfg0.N).castSucc : sProp 𝕄) ⊢ iprop(∃ W, owes (c : Thread nD τ) (O₀ c) W) := by
  iintro ⟨%W, -, HO⟩
  iexists W; iexact HO

theorem owes_out (c : Dev nD) : iprop(∃ W, owes (c : Thread nD τ) 0 W) ⊢ ((dats m 0 c).owesAt 0 (t0_0 : Fin cfg0.N).succ : sProp 𝕄) := by
  iintro ⟨%W, HO⟩
  iexists W
  isplitr
  · ipureintro; exact fun _ _ => Or.inl trivial
  · iexact HO

set_option maxRecDepth 65536 in
theorem body_obligation (c : Dev nD) : BodyObligation (dats m 0 c) (defs₀ (F := F)) 𝒱₀ 0 Set.univ := fun t => by
  rw [fin_N0 t]
  show iprop(Φ₀ m c ∗ (dats m 0 c).owesAt 0 (t0_0 : Fin cfg0.N).castSucc ∗ _) ⊢ Wp c (bodyAt0 (F := F) t0_0) fun _ => iprop(Φ₁ m c ∗ (dats m 0 c).owesAt 0 (t0_0 : Fin cfg0.N).succ ∗ _)
  rw [bodyAt0_eq, Finset.univ_eq_empty, bigSep_empty, bigSep_empty]
  have h := body_ok m c
  generalize body (F := F) = p at h ⊢
  refine wp_post (Q := iprop(Φ₁ m c ∗ ∃ W, owes (c : Thread nD τ) 0 W)) (BIBase.Entails.trans ?_ h) ?_
  · iintro ⟨HΦ, HO, -⟩
    isplitl [HΦ]; · iexact HΦ
    iapply (owes_in m c); iexact HO
  · iintro ⟨HΦ, HO⟩
    imodintro
    isplitl [HΦ]; · iexact HΦ
    isplitl [HO]; · iapply (owes_out m c); iexact HO
    iempintro

theorem ownSemFacts : Pipeline.OwnSemFacts cfg0.spec osem := by decide

theorem glob : (bigSep Finset.univ fun c : Dev nD => iprop(Pipeline.ownSems0 (Ix := ℕ) (Name := ℕ) (U := UU) (Lvl := ℕ) (Val := Elt F) (τ := τ) osem c ∗ unscopedSems0 c ∗ Start m c) : sProp 𝕄)
    ⊢ |={Set.univ}=> bigSep Finset.univ (Opened m) := by
  have h : (bigSep Finset.univ fun c : Dev nD => iprop(Pipeline.ownSems0 (Ix := ℕ) (Name := ℕ) (U := UU) (Lvl := ℕ) (Val := Elt F) (τ := τ) osem c ∗ unscopedSems0 c ∗ Start m c) : sProp 𝕄)
      ⊢ bigSep Finset.univ fun c : Dev nD => iprop(Sems0 c ∗ Start m c) := by
    refine bigSep_mono fun c _ => ?_
    show BIBase.Entails (PROP := sProp 𝕄) _ _
    rw [sems0_eq]
    iintro ⟨H1, H2, H3⟩
    isplitl [H1 H2]
    · isplitl [H2] <;> iassumption
    · iexact H3
  exact BIBase.Entails.trans h (open_all m)

theorem start_intro (ρ : Dev nD → PrngReg) (c : Dev nD) :
    iprop(Pipeline.unscopedRestP Pipeline.Prefetch.none (cfg0.spec) c (fun b => m ((c : Thread nD τ).loc b)) ∗ levAts L lv
        ∗ Pipeline.launchCred O₀ c ∗ prngReg c (ρ c) ∗ Opened m c)
      ⊢ |={Set.univ}=> (iprop(Start0 m c ∗ emp) : sProp 𝕄) := by
  rw [Pipeline.unscopedRestP_none]
  unfold Opened Start0
  iintro ⟨HR, HL, HC, -, ⟨HI, HN⟩⟩
  ihave HA := (args_in m c) $$ [HR]
  · iexact HR
  ihave HP := (proto_intro c) $$ [HN HC]
  · isplitl [HN] <;> iassumption
  imodintro
  isplitl
  · isplitl [HI]; · iexact HI
    isplitl [HL]; · iexact HL
    isplitl [HP] <;> iassumption
  · iempintro

theorem phi0_intro (c : Dev nD) :
    iprop(Start0 m c ∗ Pipeline.prefHeld Pipeline.Prefetch.none c (fun _ => fullShare.right) (fun k => k.elim0) ∗ Pipeline.scopedRest (cfg0.spec) c)
      ⊢ ((dats m 0 c).Φ 0 : sProp 𝕄) := by
  show _ ⊢ Φ₀ m c
  unfold Φ₀
  iintro ⟨H, -, HC⟩
  isplitl [H] <;> iassumption

theorem phi1_exit (c : Dev nD) :
    ((dats m 0 c).Φ (Fin.last cfg0.N) : sProp 𝕄) ⊢ iprop((unscopedSems0 c ∗ Pipeline.unscopedRest (cfg0.spec) c (Vout m c)) ∗ Pipeline.ownSems0 osem c ∗ Pipeline.scopedRest (cfg0.spec) c) := by
  show Φ₁ m c ⊢ _
  unfold Φ₁
  rw [sems0_eq]
  iintro ⟨⟨HU, HO⟩, HC, HV⟩
  isplitl [HU HV]
  · isplitl [HU] <;> iassumption
  · isplitl [HO] <;> iassumption

theorem waits (c : Dev nD) : (levAts L lv : sProp 𝕄) ⊢ Pipeline.cellsWaits cfgs (dats m) 0 0 c :=
  Pipeline.cellsWaits_intro cfgs (dats m) 0 0 c fun w => w.elim0

/-- What a device's memory holds after the run. -/
def QY (c : Dev nD) (s : MemSt nD τ sig (Elt F)) : Prop :=
  (∀ sm : SemLoc sig, sm.isScoped .tc = false → s.sem ((c.tc : Thread nD τ), sm) = 0)
    ∧ ∀ b ∈ Pipeline.restRefs sig (cfg0.spec), s.mem ((c : Thread nD τ).loc b) = Vout m c b

theorem read_end (c : Dev nD) (s' : Phys nD τ sig (Elt F)) :
    iprop((unscopedSems0 c ∗ Pipeline.unscopedRest (cfg0.spec) c (Vout m c)) ∗ emp ∗ SI s') ⊢ |={Set.univ}=> (iprop(⌜QY m c s'.mem⌝ ∗ SI s') : sProp 𝕄) := by
  iintro ⟨⟨HU, HV⟩, -, HS⟩
  imod (Pipeline.unscopedSems0_read (X := unscopedSems0 c) (c := c) fupd_intro s') $$ [HU HS] with ⟨%h1, HS⟩
  · isplitl [HU] <;> iassumption
  ihave H := (pointsTo_read_all (Pipeline.restRefs sig (cfg0.spec)) (fun b => (c : Thread nD τ).loc b) (Vout m c) s') $$ [HV HS]
  · isplitl [HV]
    · have e : (Pipeline.unscopedRest (cfg0.spec) c (Vout m c) : sProp 𝕄) ⊢ bigSep (Pipeline.restRefs sig (cfg0.spec)) fun b => ((c : Thread nD τ).loc b) ↦{fullShare} Vout m c b := .rfl
      iapply e; iexact HV
    · iexact HS
  icases H with ⟨%h2, HS⟩
  imodintro
  isplitr
  · ipureintro; exact ⟨h1, h2⟩
  · iexact HS

/-- A run's final state: on every device the result array at its value, the arguments as they were, and every counter at zero. -/
def Final (s : MemSt nD τ sig (Elt F)) : Prop :=
  (∀ c : Dev nD, s.mem ((c : Thread nD τ).loc main_v1) = yv m ∧ ∀ b : Ref sig .tc, b ∈ Pipeline.restRefs sig (cfg0.spec) → b ≠ main_v1 → s.mem ((c : Thread nD τ).loc b) = m ((c : Thread nD τ).loc b))
    ∧ s.sem = fun _ => 0

theorem final_of (s : MemSt nD τ sig (Elt F)) (h : ∀ c : Dev nD, QY m c s) (hs : s.sem = fun _ => 0) : Final m s :=
  ⟨fun c => ⟨((h c).2 main_v1 (Pipeline.mem_restRefs_of main_v1 (by decide) (by decide))).trans (Function.update_self _ _ _),
    fun b hb hne => ((h c).2 b hb).trans (Function.update_of_ne hne _ _)⟩, hs⟩

def u₀ : UU := (initOf (Pipeline.cells cfgs cellOf_inj) (Pipeline.launchToks cfgs cellOf_inj), initOf allCells allToks)

set_option maxRecDepth 65536 in
/-- From any memory with the counters at zero the kernel on all eight devices ends, faults nowhere, and ends in `Final`. -/
theorem run_main (ρ : Dev nD → PrngReg) : θ_run defs (onTc (τ := τ) (main (F := F))) ⟨m, fun _ => 0, ρ⟩ (fun r => Final m r.2) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := Start m) (G' := Opened m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Start0 m) (Y := fun c => iprop(unscopedSems0 c ∗ Pipeline.unscopedRest (cfg0.spec) c (Vout m c))) (Z := fun _ => iprop(emp))
    (hX := start_intro m ρ) (hin := phi0_intro m) (hout := phi1_exit m)
    (QY := QY m) (hY := read_end m)
    (hQ := fun _ h hs => final_of m _ (fun c => (h c).2.2) (sem_eq_zero hs fun c => (h c).2.2.1))

end Cert.KernelIdeal.P

end
-- ==== Proof.Frames.lean ====
/-
The frames: a run of the kernel leaves its arguments as they were and every counter at zero, whatever the values are
read as. The program as printed and its idealization are the same text, so that one run serves both.
-/
module

public import proofs.«01_k».proof.Proof.Launch
public import proofs.«01_k».proof.Proof.Gen.Kernel
public import proofs.«01_k».proof.Defs
public import Idealize.ShloMosaic.PureOps.BitExact

@[expose] public section

noncomputable section

namespace Cert.KernelIdeal.P

open Idealize.ShloMosaic Idealize.SL.Sem
open Idealize.ShloMosaic.TcCoe

variable {F : FTy → Type} [FloatOps F]

/-- The arguments of a device, unchanged. -/
theorem args_same (m : (ℓ : Loc nD τ sig) → Buf (Elt F) ℓ) (s : MemSt nD τ sig (Elt F)) (h : Final m s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6) :=
  have g := fun b hb hne => (h.1 c).2 b hb hne
  ⟨g main_arg0 (Pipeline.mem_restRefs_of main_arg0 (by decide) (by decide)) (by decide),
    g main_arg1 (Pipeline.mem_restRefs_of main_arg1 (by decide) (by decide)) (by decide),
    g main_arg2 (Pipeline.mem_restRefs_of main_arg2 (by decide) (by decide)) (by decide),
    g main_arg3 (Pipeline.mem_restRefs_of main_arg3 (by decide) (by decide)) (by decide),
    g main_arg4 (Pipeline.mem_restRefs_of main_arg4 (by decide) (by decide)) (by decide),
    g main_arg5 (Pipeline.mem_restRefs_of main_arg5 (by decide) (by decide)) (by decide),
    g main_arg6 (Pipeline.mem_restRefs_of main_arg6 (by decide) (by decide)) (by decide)⟩

theorem frame_ideal : Cert.quiescent_KernelIdeal := fun m ρ _ =>
  (θ_run _ _ _).mono (fun _ h => ⟨args_same m _ h, h.2⟩) (run_main m ρ)

theorem frame_bits_ideal (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run _ _ _).mono (fun _ h => ⟨args_same m _ h, h.2⟩) (run_main m ρ)

set_option maxRecDepth 65536 in
/-- The same text. -/
theorem frame_bits : Cert.quiescent_Kernel := fun m ρ _ => frame_bits_ideal m ρ

end Cert.KernelIdeal.P

end
-- ==== Proof.Value.lean ====
/-
The kernel's result at the ideal values: every layer is the plain layer on the whole weight arrays, the sum over the
devices being the contraction over the hidden columns taken block by block.
-/
module

public import proofs.«01_k».proof.Proof.Lane
public import Idealize.ShloMosaic.PureOps.Ideal.Laws
public import Idealize.ShloMosaic.Lib.MatmulPlain
public import Idealize.ShloMosaic.Lib.StackMember
public import Idealize.ShloMosaic.Lib.KernelVsHost
public import Idealize.ShloMosaic.Lib.Pipeline.Value
public import Idealize.ShloMosaic.Lib.Layout
public import Idealize.ShloMosaic.Lib.ValueIdxCore

@[expose] public section

noncomputable section

namespace Cert.KernelIdeal.P

open Cert.KernelIdeal.Gen
open Idealize.ShloMosaic Idealize.ShloMosaic.ValueIdx
open Idealize.ShloMosaic.TcCoe

variable (m : (ℓ : Loc nD τ sig) → Buf (Elt Ideal) ℓ)

/-- A matrix of the real numbers with the infinities. -/
abbrev Mx (a b : ℕ) := (⟨2, ![a, b]⟩ : Shape).Idx → EReal

/-- One hidden unit of a layer, and a layer on `h` hidden units. -/
def hid {n k h : ℕ} (x : Mx n k) (W : Mx k h) (r : Fin n) (j : Fin h) : EReal := max (∑ d : Fin k, x (ix2 r d) * W (ix2 d j)) 0
def mlp {n k h o : ℕ} (x : Mx n k) (W : Mx k h) (V : Mx h o) : Mx n o := fun i => ∑ j : Fin h, hid x W (i 0) j * V (ix2 j (i 1))

/-! ## The reduction -/

theorem redPay_apply (o r0 r1 r2 r3 r4 r5 r6 : V32 Ideal) (i : S32x256.Idx) :
    redPay o r0 r1 r2 r3 r4 r5 r6 i = (o i : EReal) + r0 i + r1 i + r2 i + r3 i + r4 i + r5 i + r6 i := by
  unfold redPay k0_pay4 k0_pay3
  dsimp only
  rw [shapeCast_self]
  rfl

/-- The sum over a device and its seven peers is the sum over all devices. -/
theorem sum_peers (p : Dev nD) (f : Dev nD → EReal) :
    f p + f (peer p 0) + f (peer p 1) + f (peer p 2) + f (peer p 3) + f (peer p 4) + f (peer p 5) + f (peer p 6) = ∑ c, f c := by
  have h : (Finset.univ : Finset (Dev nD)) = insert p (Finset.univ.image (peer p)) := by revert p; decide +kernel
  rw [h, Finset.sum_insert (by revert p; decide +kernel), Finset.sum_image fun a _ b _ e => peer_inj p a b e, Fin.sum_univ_seven]
  simp only [add_assoc]

/-- Every element lies in a chunk, and in a stream. -/
theorem ck_ix (i : S512x256.Idx) : ∃ (t : Fin 2) (p : Dev nD) (j : S32x256.Idx), (ckRect t p).emb j = i := by
  have h := row_lt i
  refine ⟨tOf i, pOf i, ix2 ⟨(i (0 : Fin 2)).val % 32, Nat.mod_lt _ (by decide)⟩ ⟨(i (1 : Fin 2)).val, (i (1 : Fin 2)).isLt⟩, ?_⟩
  funext a
  match a with
  | ⟨0, _⟩ => exact Fin.ext ((ck_row _ _ _).trans (by show _ = (i (0 : Fin 2)).val; unfold tOf pOf; dsimp only; omega))
  | ⟨1, _⟩ => exact Fin.ext (ck_col _ _ _)
theorem row_ix (i : S512x256.Idx) : ∃ (t : Fin 2) (j : S256x256.Idx), (rowRect t).emb j = i := by
  have h := row_lt i
  refine ⟨tOf i, ix2 ⟨(i (0 : Fin 2)).val % 256, Nat.mod_lt _ (by decide)⟩ ⟨(i (1 : Fin 2)).val, (i (1 : Fin 2)).isLt⟩, ?_⟩
  funext a
  match a with
  | ⟨0, _⟩ => exact Fin.ext ((row_row _ _).trans (by show _ = (i (0 : Fin 2)).val; unfold tOf; dsimp only; omega))
  | ⟨1, _⟩ => exact Fin.ext (row_col _ _)

theorem reduced_apply (P : Dev nD → Arr Ideal) (i : S512x256.Idx) : reduced P i = ∑ c, (P c i : EReal) := by
  obtain ⟨t, p, j, rfl⟩ := ck_ix i
  have h : ckOf t p (reduced P) j = ∑ c, (P c ((ckRect t p).emb j) : EReal) := by
    unfold reduced
    rw [ckOf_unck, redPay_apply]
    exact sum_peers p fun c => P c ((ckRect t p).emb j)
  exact h

/-! ## A partial product -/

theorem cast1 {a b : ℕ} (v : (⟨3, ![1, a, b]⟩ : Shape).Idx → EReal) (h : (⟨3, ![1, a, b]⟩ : Shape).ShapeCasts ⟨2, ![a, b]⟩) (r : Fin a) (c : Fin b) :
    shapeCast ⟨2, ![a, b]⟩ v h (ix2 r c) = v (ix3 0 r c) := by
  rw [show shapeCast ⟨2, ![a, b]⟩ v h (ix2 r c) = _ from shapeCast_dropUnit_apply (n := 2) ![a, b] v h (ix2 r c)]
  congr 1
  funext e
  match e with
  | ⟨0, _⟩ => rfl
  | ⟨1, _⟩ => rfl
  | ⟨2, _⟩ => rfl

theorem pay7_apply (X : Vec Ideal S256x256 .bf16) (W : Vec Ideal S1x256x512 .f32) (V : Vec Ideal S1x512x256 .f32) :
    k0_pay7 X W V = mlp (X : Mx 256 256) (fun i => W (ix3 0 (i 0) (i 1)) : Mx 256 512) (fun i => V (ix3 0 (i 0) (i 1)) : Mx 512 256) := by
  funext j
  obtain ⟨r, n, rfl⟩ : ∃ (r : Fin 256) (n : Fin 256), j = ix2 r n := ⟨_, _, eq_ix2 j⟩
  unfold k0_pay7
  rw [shapeCast_self]
  show FloatOps.matmul (DotDims.plain 256 512 256) none (_ : FVec Ideal _ .bf16) (_ : FVec Ideal _ .bf16) (constant (F := Ideal) S256x256 .f32 0x00000000#32) (ix2 r n) = _
  rw [Ideal.matmul_plain_apply]
  rw [show (constant (F := Ideal) S256x256 .f32 0x00000000#32) (ix2 r n) = (0 : EReal) from Ideal.ofBits_zero_f32, zero_add]
  unfold mlp
  refine Finset.sum_congr rfl fun k _ => ?_
  congr 1
  · show max (FloatOps.matmul (DotDims.plain 256 256 512) none (_ : FVec Ideal _ .bf16) (_ : FVec Ideal _ .bf16) (constant (F := Ideal) S256x512 .f32 0x00000000#32) (ix2 r k)) (Ideal.ofBits .f32 0x00000000#32) = _
    rw [Ideal.matmul_plain_apply]
    rw [show (constant (F := Ideal) S256x512 .f32 0x00000000#32) (ix2 r k) = (0 : EReal) from Ideal.ofBits_zero_f32, zero_add, Ideal.ofBits_zero_f32]
    unfold hid
    congr 1
    refine Finset.sum_congr rfl fun d _ => ?_
    congr 1
    exact cast1 W shapeCasts_S1x256x512_S256x512 d k
  · exact cast1 V shapeCasts_S1x512x256_S512x256 k n

theorem pay1_eq (X : Vec Ideal S256x256 .f32) (W : Vec Ideal S1x256x512 .f32) (V : Vec Ideal S1x512x256 .f32) :
    k0_pay1 X W V = k0_pay7 (F := Ideal) X W V := by
  unfold k0_pay7 k0_pay1
  dsimp only
  rw [shapeCast_self, shapeCast_self]
  rfl

/-- A device's weights of a layer. -/
def winOf (c : Dev nD) (l : Fin 3) : Mx 256 512 := match l with
  | 0 => m ((c : Thread nD τ).loc main_arg1) | 1 => m ((c : Thread nD τ).loc main_arg3) | 2 => m ((c : Thread nD τ).loc main_arg5)
def woutOf (c : Dev nD) (l : Fin 3) : Mx 512 256 := match l with
  | 0 => m ((c : Thread nD τ).loc main_arg2) | 1 => m ((c : Thread nD τ).loc main_arg4) | 2 => m ((c : Thread nD τ).loc main_arg6)

theorem wi_emb (l : Fin 3) (a : Fin 256) (b : Fin 512) : (wiRect l).emb (ix3 (0 : Fin 1) a b : S1x256x512.Idx) = (ix3 l a b : S3x256x512.Idx) := by
  funext e
  unfold wiRect
  match e with
  | ⟨0, _⟩ => exact Fin.ext ((Rect.emb_apply _ _ _).trans (by show l.val + 1 * 0 = l.val; omega))
  | ⟨1, _⟩ => exact Fin.ext ((Rect.emb_apply _ _ _).trans (by show 0 + 1 * a.val = a.val; omega))
  | ⟨2, _⟩ => exact Fin.ext ((Rect.emb_apply _ _ _).trans (by show 0 + 1 * b.val = b.val; omega))
theorem wo_emb (l : Fin 3) (a : Fin 512) (b : Fin 256) : (woRect l).emb (ix3 (0 : Fin 1) a b : S1x512x256.Idx) = (ix3 l a b : S3x512x256.Idx) := by
  funext e
  unfold woRect
  match e with
  | ⟨0, _⟩ => exact Fin.ext ((Rect.emb_apply _ _ _).trans (by show l.val + 1 * 0 = l.val; omega))
  | ⟨1, _⟩ => exact Fin.ext ((Rect.emb_apply _ _ _).trans (by show 0 + 1 * a.val = a.val; omega))
  | ⟨2, _⟩ => exact Fin.ext ((Rect.emb_apply _ _ _).trans (by show 0 + 1 * b.val = b.val; omega))

theorem win_eq (c : Dev nD) (l : Fin 3) : (fun i => winVec m c l (ix3 0 (i 0) (i 1)) : Mx 256 512) = winOf m c l := by
  funext i
  obtain ⟨a, b, rfl⟩ : ∃ (a : Fin 256) (b : Fin 512), i = ix2 a b := ⟨_, _, eq_ix2 i⟩
  show winAll m c ((wiRect l).emb (ix3 (0 : Fin 1) a b : S1x256x512.Idx)) = _
  rw [wi_emb]
  match l with
  | 0 => exact congrArg (m ((c : Thread nD τ).loc main_arg1)) (eq_ix2 _)
  | 1 => exact congrArg (m ((c : Thread nD τ).loc main_arg3)) (eq_ix2 _)
  | 2 => exact congrArg (m ((c : Thread nD τ).loc main_arg5)) (eq_ix2 _)
theorem wout_eq (c : Dev nD) (l : Fin 3) : (fun i => woutVec m c l (ix3 0 (i 0) (i 1)) : Mx 512 256) = woutOf m c l := by
  funext i
  obtain ⟨a, b, rfl⟩ : ∃ (a : Fin 512) (b : Fin 256), i = ix2 a b := ⟨_, _, eq_ix2 i⟩
  show woutAll m c ((woRect l).emb (ix3 (0 : Fin 1) a b : S1x512x256.Idx)) = _
  rw [wo_emb]
  match l with
  | 0 => exact congrArg (m ((c : Thread nD τ).loc main_arg2)) (eq_ix2 _)
  | 1 => exact congrArg (m ((c : Thread nD τ).loc main_arg4)) (eq_ix2 _)
  | 2 => exact congrArg (m ((c : Thread nD τ).loc main_arg6)) (eq_ix2 _)

/-- A layer acts on rows, so that a stream's rows of it are the layer of the stream's rows. -/
theorem mlp_rows (x : Mx 512 256) (W : Mx 256 512) (V : Mx 512 256) (t : Fin 2) (j : S256x256.Idx) :
    mlp (rowsOf (F := Ideal) (e := .f32) t x : Mx 256 256) W V j = mlp x W V ((rowRect t).emb j) := by
  obtain ⟨r, n, rfl⟩ : ∃ (r : Fin 256) (n : Fin 256), j = ix2 r n := ⟨_, _, eq_ix2 j⟩
  have h : ∀ d : Fin 256, (rowRect t).emb (ix2 r d : S256x256.Idx) = (ix2 ((rowRect t).emb (ix2 r n : S256x256.Idx) (0 : Fin 2)) d : S512x256.Idx) := fun d => by
    funext e
    match e with
    | ⟨0, _⟩ => exact Fin.ext ((row_row _ _).trans (row_row t (ix2 r n)).symm)
    | ⟨1, _⟩ => exact Fin.ext (row_col _ _)
  have hn : ((rowRect t).emb (ix2 r n : S256x256.Idx) (1 : Fin 2)) = n := Fin.ext (row_col _ _)
  unfold mlp
  refine Finset.sum_congr rfl fun k _ => ?_
  congr 1
  · unfold hid
    congr 1
    refine Finset.sum_congr rfl fun d _ => ?_
    congr 1
    exact congrArg x (h d)
  · exact congrArg (fun q => V (ix2 k q)) hn.symm

theorem part_eq (l : Fin 3) (x : Arr Ideal) (c : Dev nD) : part m l x c = mlp (x : Mx 512 256) (winOf m c l) (woutOf m c l) := by
  funext i
  obtain ⟨t, j, rfl⟩ := row_ix i
  have h : rowsOf t (part m l x c) j = mlp (x : Mx 512 256) (winOf m c l) (woutOf m c l) ((rowRect t).emb j) := by
    unfold part
    rw [rowsOf_unrow, pay7_apply, win_eq, wout_eq]
    exact mlp_rows x _ _ t j
  exact h
theorem part0_eq (c : Dev nD) : part0 m c = part m 0 (xArg m c : Mx 512 256) c := by
  unfold part0 part
  congr 1

/-! ## The layers -/

theorem block_sum (f : Fin 4096 → EReal) :
    (∑ c : Fin 8, ∑ k : Fin 512, f ⟨c.val * 512 + k.val, by omega⟩) = ∑ k, f k := by
  rw [← Fintype.sum_prod_type' (f := fun (c : Fin 8) (k : Fin 512) => f ⟨c.val * 512 + k.val, by omega⟩)]
  refine Fintype.sum_equiv (finProdFinEquiv : Fin 8 × Fin 512 ≃ Fin 4096) _ _ fun x => congrArg f (Fin.ext ?_)
  show x.1.val * 512 + x.2.val = x.2.val + 512 * x.1.val
  omega

theorem layer_sum (x : Mx 512 256) (W : Mx 256 4096) (V : Mx 4096 256) (i : S512x256.Idx) :
    (∑ c : Fin 8, mlp x (Layout.block ⟨2, ![256, 512]⟩ ⟨2, ![256, 4096]⟩ 1 8 c W) (Layout.block ⟨2, ![512, 256]⟩ ⟨2, ![4096, 256]⟩ 0 8 c V) i) = mlp x W V i := by
  unfold mlp
  rw [← block_sum]
  refine Finset.sum_congr rfl fun c _ => Finset.sum_congr rfl fun k _ => ?_
  congr 1
  · unfold hid
    congr 1
    refine Finset.sum_congr rfl fun d _ => ?_
    congr 1
    refine (Layout.block_apply ..).trans (congrArg W ?_)
    funext e
    match e with
    | ⟨0, _⟩ => rfl
    | ⟨1, _⟩ => rfl
  · refine (Layout.block_apply ..).trans (congrArg V ?_)
    funext e
    match e with
    | ⟨0, _⟩ => rfl
    | ⟨1, _⟩ => rfl

/-- The weights of a layer on a device are its block of the whole weights: columns of the first, rows of the second. -/
def Sharded (l : Fin 3) (W : Mx 256 4096) (V : Mx 4096 256) : Prop :=
  ∀ c : Fin 8, winOf m c l = Layout.block ⟨2, ![256, 512]⟩ ⟨2, ![256, 4096]⟩ 1 8 c W ∧ woutOf m c l = Layout.block ⟨2, ![512, 256]⟩ ⟨2, ![4096, 256]⟩ 0 8 c V

theorem layer_eq (l : Fin 3) {W : Mx 256 4096} {V : Mx 4096 256} (h : Sharded m l W V) (P : Dev nD → Arr Ideal) (x : Mx 512 256)
    (hP : ∀ c, P c = part m l x c) : (reduced P : Mx 512 256) = mlp x W V := by
  funext i
  rw [reduced_apply, ← layer_sum]
  refine Finset.sum_congr rfl fun c _ => ?_
  rw [hP, part_eq, (h c).1, (h c).2]

theorem pay25_eq (x : FVec Ideal S512x256 .bf16) : k0_pay25 (F := Ideal) x = x := by
  unfold k0_pay25
  exact shapeCast_self (x : S512x256.Idx → EReal) _

/-- What every device ends with is the three layers of the whole weights. -/
theorem yv_eq {W0 W1 W2 : Mx 256 4096} {V0 V1 V2 : Mx 4096 256} {x : Mx 512 256} (hx : ∀ c, xArg m c = x)
    (h0 : Sharded m 0 W0 V0) (h1 : Sharded m 1 W1 V1) (h2 : Sharded m 2 W2 V2) :
    (yv m : Mx 512 256) = mlp (mlp (mlp x W0 V0) W1 V1) W2 V2 := by
  have e0 : xv m 0 = mlp x W0 V0 := layer_eq m 0 h0 _ x fun c => by rw [← hx c]; exact part0_eq m c
  have e1 : xv m 1 = mlp (mlp x W0 V0) W1 V1 := layer_eq m 1 h1 _ _ fun c => by rw [← e0]; rfl
  have e2 : xv m 2 = mlp (mlp (mlp x W0 V0) W1 V1) W2 V2 := layer_eq m 2 h2 _ _ fun c => by rw [← e1]; rfl
  rw [← e2]
  exact pay25_eq _

end Cert.KernelIdeal.P

end
-- ==== Proof.Claims.lean ====
/-
The reference: what it computes, its frame, and that the kernel computes the same from its devices' blocks.
-/
module

public import proofs.«01_k».proof.Proof.Value
public import proofs.«01_k».proof.Proof.Frames
public import Idealize.ShloMosaic.Lib.StackMember
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Q

open Idealize.ShloMosaic Idealize.SL.Sem Idealize.ShloMosaic.ValueIdx
open Cert.ReferenceIdeal.Gen
open Cert.KernelIdeal.P (Mx hid mlp)

/-- One layer as the reference writes it. -/
theorem ref_layer (x : FVec Ideal S512x256 .f32) (W : FVec Ideal S256x4096 .f32) (V : FVec Ideal S4096x256 .f32) :
    Host.dotGeneral (F := Ideal) dot_S512x4096_S4096x256_S512x256_1_0_0_1_n_n none (maximumf (Host.dotGeneral dot_S512x256_S256x4096_S512x4096_1_0_0_1_n_n none x W) (broadcastInDim S512x4096 ![] bcast_S_S512x4096 (constant (F := Ideal) S_ .f32 0x00000000#32))) V
      = mlp (x : Mx 512 256) W V := by
  funext i
  obtain ⟨r, n, rfl⟩ : ∃ (r : Fin 512) (n : Fin 256), i = ix2 r n := ⟨_, _, eq_ix2 i⟩
  refine (StackMember.dotGeneral_plain_apply none _ _ r n).trans ?_
  unfold mlp
  refine Finset.sum_congr rfl fun k _ => ?_
  congr 1
  unfold hid
  refine congrArg₂ max (StackMember.dotGeneral_plain_apply none x W r k) Ideal.ofBits_zero_f32

theorem frame_ref : Cert.quiescent_ReferenceIdeal := fun m ρ _ =>
  (θ_run _ _ _).mono (fun r h => ⟨fun c => (h c).2, sem_eq_zero_of_no_sems rfl r.2⟩) (Cert.ReferenceIdeal.Value.run m ρ)

theorem algebraic : Cert.algebraic_KernelIdeal_ReferenceIdeal := by
  intro m g m' g' _ h
  have e := Cert.KernelIdeal.P.yv_eq m (fun c => (h c).1)
    (fun c => ⟨(h c).2.1, (h c).2.2.1⟩) (fun c => ⟨(h c).2.2.2.1, (h c).2.2.2.2.1⟩) (fun c => ⟨(h c).2.2.2.2.2.1, (h c).2.2.2.2.2.2⟩)
  refine ⟨Cert.KernelIdeal.P.yv m, ?_, ?_⟩
  · exact (θ_run _ _ _).mono (fun r k c => ⟨(k.1 c).1, Cert.KernelIdeal.P.args_same m _ k c⟩) (Cert.KernelIdeal.P.run_main m g)
  · refine (θ_run _ _ _).mono (fun r k => ⟨(k 0).1.trans ?_, (k 0).2⟩) (Cert.ReferenceIdeal.Value.run m' g')
    rw [ref_layer, ref_layer, ref_layer]
    exact e.symm

end Cert.ReferenceIdeal.Q

end
-- ==== Proof.lean ====
module

public import proofs.«01_k».proof.Proof.Gen.ReferenceIdeal.Run
public import proofs.«01_k».proof.Defs
public import proofs.«01_k».proof.Proof.Frames
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.P.frame_bits, Cert.KernelIdeal.P.frame_ideal, Cert.ReferenceIdeal.Q.frame_ref, trivial, Cert.ReferenceIdeal.Q.algebraic⟩

end Cert.Proof

end
